-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_nonnegative [hPre_types_nonnegative : Cert.Pre_types_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_types_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_types_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_nonnegative [hPre_types_nonnegative : Cert.Pre_types_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_types_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_types_nonnegative [hKernelIdeal : Cert.KernelIdeal.Facts] [hPre_types_nonnegative : Cert.Pre_types_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_types_nonnegative [hReferenceIdeal : Cert.ReferenceIdeal.Facts] [hPre_types_nonnegative : Cert.Pre_types_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_types_nonnegative [hKernelIdeal : Cert.KernelIdeal.Facts] [hReferenceIdeal : Cert.ReferenceIdeal.Facts] [hPre_types_nonnegative : Cert.Pre_types_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_types_nonnegative : Cert.Pre_types_nonnegative.Facts),
    quiescent_Kernel (hKernel := hKernel)
    ∧ quiescent_KernelIdeal (hKernelIdeal := hKernelIdeal)
    ∧ quiescent_KernelIdeal_pre_types_nonnegative (hKernelIdeal := hKernelIdeal) (hPre_types_nonnegative := hPre_types_nonnegative)
    ∧ quiescent_ReferenceIdeal (hReferenceIdeal := hReferenceIdeal)
    ∧ quiescent_ReferenceIdeal_pre_types_nonnegative (hReferenceIdeal := hReferenceIdeal) (hPre_types_nonnegative := hPre_types_nonnegative)
    ∧ preserves_Kernel_KernelIdeal
    ∧ algebraic_KernelIdeal_ReferenceIdeal_pre_types_nonnegative (hKernelIdeal := hKernelIdeal) (hReferenceIdeal := hReferenceIdeal) (hPre_types_nonnegative := hPre_types_nonnegative)
-- ==== Pre_types_nonnegative.lean ====
abbrev S8192x64 : Shape := ⟨2, ![8192, 64]⟩
abbrev S8192x64x64 : Shape := ⟨3, ![8192, 64, 64]⟩
abbrev S8192 : Shape := ⟨1, ![8192]⟩
abbrev S65 : Shape := ⟨1, ![65]⟩
abbrev S16 : Shape := ⟨1, ![16]⟩
abbrev S5 : Shape := ⟨1, ![5]⟩
abbrev S190 : Shape := ⟨1, ![190]⟩
abbrev S_ : Shape := ⟨0, ![]⟩

class Facts : Prop where
  bcast_S_S8192x64 : S_.BroadcastsInDim S8192x64 (![] : Fin 0 → Fin S8192x64.rank)
  bcast_S_S8192x64x64 : S_.BroadcastsInDim S8192x64x64 (![] : Fin 0 → Fin S8192x64x64.rank)

variable [Facts]

def fn {F : FTy → Type} [FloatOps F] (main_arg0 : IVec S8192x64 32) (main_arg1 : IVec S8192x64x64 32) (main_arg2 : IVec S8192 32) (main_arg3 : FVec F S65 .f32) (main_arg4 : FVec F S16 .f32) (main_arg5 : FVec F S5 .f32) (main_arg6 : FVec F S190 .f32) : IVec S8192x64 1 × IVec S8192x64x64 1 :=
  let main_c : IVec S_ 32 := constantI S_ 32 0#32
  let main_v0 : IVec S8192x64 32 := broadcastInDim S8192x64 ![] bcast_S_S8192x64 main_c
  let main_v1 : IVec S8192x64 1 := cmpi .sge main_arg0 main_v0
  let main_c_0 : IVec S_ 32 := constantI S_ 32 0#32
  let main_v2 : IVec S8192x64x64 32 := broadcastInDim S8192x64x64 ![] bcast_S_S8192x64x64 main_c_0
  let main_v3 : IVec S8192x64x64 1 := cmpi .sge main_arg1 main_v2
  (main_v1, main_v3)
-- ==== Kernel.lean ====
abbrev S8192x64 : Shape := ⟨2, ![8192, 64]⟩
abbrev S8192x64x64 : Shape := ⟨3, ![8192, 64, 64]⟩
abbrev S8192 : Shape := ⟨1, ![8192]⟩
abbrev S65 : Shape := ⟨1, ![65]⟩
abbrev S16 : Shape := ⟨1, ![16]⟩
abbrev S5 : Shape := ⟨1, ![5]⟩
abbrev S190 : Shape := ⟨1, ![190]⟩
abbrev S8192x1 : Shape := ⟨2, ![8192, 1]⟩
abbrev S8192x1x1 : Shape := ⟨3, ![8192, 1, 1]⟩
abbrev S8192x32x128 : Shape := ⟨3, ![8192, 32, 128]⟩
abbrev S32 : Shape := ⟨1, ![32]⟩
abbrev S1x32x1 : Shape := ⟨3, ![1, 32, 1]⟩
abbrev S128 : Shape := ⟨1, ![128]⟩
abbrev S1x1x128 : Shape := ⟨3, ![1, 1, 128]⟩
abbrev S_ : Shape := ⟨0, ![]⟩
abbrev S1x32x128 : Shape := ⟨3, ![1, 32, 128]⟩
abbrev S1x128 : Shape := ⟨2, ![1, 128]⟩
abbrev S1 : Shape := ⟨1, ![1]⟩
abbrev S2 : Shape := ⟨1, ![2]⟩
abbrev S2x128 : Shape := ⟨2, ![2, 128]⟩
abbrev S256 : Shape := ⟨1, ![256]⟩
abbrev S8x128 : Shape := ⟨2, ![8, 128]⟩
abbrev S256x1 : Shape := ⟨2, ![256, 1]⟩
abbrev S256x1x1 : Shape := ⟨3, ![256, 1, 1]⟩
abbrev S256x64 : Shape := ⟨2, ![256, 64]⟩
abbrev S256x32x128 : Shape := ⟨3, ![256, 32, 128]⟩
abbrev S256x128 : Shape := ⟨2, ![256, 128]⟩
abbrev S1x256x64 : Shape := ⟨3, ![1, 256, 64]⟩
abbrev S1x1x1 : Shape := ⟨3, ![1, 1, 1]⟩
abbrev S1x256x32x128 : Shape := ⟨4, ![1, 256, 32, 128]⟩
abbrev S1x1x1x1 : Shape := ⟨4, ![1, 1, 1, 1]⟩
abbrev S1x2x128 : Shape := ⟨3, ![1, 2, 128]⟩
abbrev S1x65 : Shape := ⟨2, ![1, 65]⟩
abbrev S1x16 : Shape := ⟨2, ![1, 16]⟩
abbrev S1x5 : Shape := ⟨2, ![1, 5]⟩
abbrev S1x62 : Shape := ⟨2, ![1, 62]⟩
abbrev S62 : Shape := ⟨1, ![62]⟩
abbrev S1x4 : Shape := ⟨2, ![1, 4]⟩
abbrev S4 : Shape := ⟨1, ![4]⟩
abbrev S280 : Shape := ⟨1, ![280]⟩

abbrev nBuf : Space → Nat
  | .hbm => 106
  | .vmem => 19
  | .smem => 0
  | _ => 0

abbrev bufTy : (tb : Table) → Fin (tcTables nBuf tb) → BufTy
  | .hbm, ⟨0, _⟩ => ⟨S8192x64, .i32⟩
  | .hbm, ⟨1, _⟩ => ⟨S8192x64x64, .i32⟩
  | .hbm, ⟨2, _⟩ => ⟨S8192, .i32⟩
  | .hbm, ⟨3, _⟩ => ⟨S65, .f32⟩
  | .hbm, ⟨4, _⟩ => ⟨S16, .f32⟩
  | .hbm, ⟨5, _⟩ => ⟨S5, .f32⟩
  | .hbm, ⟨6, _⟩ => ⟨S190, .f32⟩
  | .hbm, ⟨7, _⟩ => ⟨S8192x1, .i32⟩
  | .hbm, ⟨8, _⟩ => ⟨S8192x1x1, .i32⟩
  | .hbm, ⟨9, _⟩ => ⟨S8192x32x128, .i32⟩
  | .hbm, ⟨10, _⟩ => ⟨S32, .i32⟩
  | .hbm, ⟨11, _⟩ => ⟨S1x32x1, .i32⟩
  | .hbm, ⟨12, _⟩ => ⟨S128, .i32⟩
  | .hbm, ⟨13, _⟩ => ⟨S1x1x128, .i32⟩
  | .hbm, ⟨14, _⟩ => ⟨S_, .i32⟩
  | .hbm, ⟨15, _⟩ => ⟨S1x32x1, .i32⟩
  | .hbm, ⟨16, _⟩ => ⟨S1x32x1, .i32⟩
  | .hbm, ⟨17, _⟩ => ⟨S_, .i32⟩
  | .hbm, ⟨18, _⟩ => ⟨S_, .i32⟩
  | .hbm, ⟨19, _⟩ => ⟨S1x1x128, .i32⟩
  | .hbm, ⟨20, _⟩ => ⟨S1x1x128, .i32⟩
  | .hbm, ⟨21, _⟩ => ⟨S1x1x128, .i32⟩
  | .hbm, ⟨22, _⟩ => ⟨S_, .i32⟩
  | .hbm, ⟨23, _⟩ => ⟨S1x1x128, .i32⟩
  | .hbm, ⟨24, _⟩ => ⟨S1x1x128, .i1⟩
  | .hbm, ⟨25, _⟩ => ⟨S1x1x128, .i32⟩
  | .hbm, ⟨26, _⟩ => ⟨S1x1x128, .i32⟩
  | .hbm, ⟨27, _⟩ => ⟨S_, .i32⟩
  | .hbm, ⟨28, _⟩ => ⟨S1x1x128, .i32⟩
  | .hbm, ⟨29, _⟩ => ⟨S1x1x128, .i1⟩
  | .hbm, ⟨30, _⟩ => ⟨S1x1x128, .i1⟩
  | .hbm, ⟨31, _⟩ => ⟨S_, .i32⟩
  | .hbm, ⟨32, _⟩ => ⟨S1x1x128, .i32⟩
  | .hbm, ⟨33, _⟩ => ⟨S1x1x128, .i32⟩
  | .hbm, ⟨34, _⟩ => ⟨S1x1x128, .i32⟩
  | .hbm, ⟨35, _⟩ => ⟨S1x32x128, .i32⟩
  | .hbm, ⟨36, _⟩ => ⟨S1x32x128, .i32⟩
  | .hbm, ⟨37, _⟩ => ⟨S1x32x128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1x1x128, .i32⟩
  | .hbm, ⟨45, _⟩ => ⟨S1x1x128, .i32⟩
  | .hbm, ⟨46, _⟩ => ⟨S_, .i32⟩
  | .hbm, ⟨47, _⟩ => ⟨S1x1x128, .i32⟩
  | .hbm, ⟨48, _⟩ => ⟨S1x1x128, .i1⟩
  | .hbm, ⟨49, _⟩ => ⟨S_, .i32⟩
  | .hbm, ⟨50, _⟩ => ⟨S1x1x128, .i32⟩
  | .hbm, ⟨51, _⟩ => ⟨S1x1x128, .i1⟩
  | .hbm, ⟨52, _⟩ => ⟨S_, .i32⟩
  | .hbm, ⟨53, _⟩ => ⟨S_, .i1⟩
  | .hbm, ⟨54, _⟩ => ⟨S1x1x128, .i1⟩
  | .hbm, ⟨55, _⟩ => ⟨S1x1x128, .i1⟩
  | .hbm, ⟨56, _⟩ => ⟨S1x1x128, .i1⟩
  | .hbm, ⟨57, _⟩ => ⟨S1x1x128, .i32⟩
  | .hbm, ⟨58, _⟩ => ⟨S1x1x128, .i32⟩
  | .hbm, ⟨59, _⟩ => ⟨S1x1x128, .i32⟩
  | .hbm, ⟨60, _⟩ => ⟨S1x32x128, .i32⟩
  | .hbm, ⟨61, _⟩ => ⟨S_, .f32⟩
  | .hbm, ⟨62, _⟩ => ⟨S1x128, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S1x128, .f32⟩
  | .hbm, ⟨85, _⟩ => ⟨S_, .f32⟩
  | .hbm, ⟨86, _⟩ => ⟨S2x128, .f32⟩
  | .hbm, ⟨87, _⟩ => ⟨S256, .f32⟩
  | .hbm, ⟨88, _⟩ => ⟨S_, .i32⟩
  | .hbm, ⟨89, _⟩ => ⟨S1, .i32⟩
  | .hbm, ⟨90, _⟩ => ⟨S256, .f32⟩
  | .hbm, ⟨91, _⟩ => ⟨S2x128, .f32⟩
  | .hbm, ⟨92, _⟩ => ⟨S8x128, .f32⟩
  | .hbm, ⟨93, _⟩ => ⟨S1x65, .f32⟩
  | .hbm, ⟨94, _⟩ => ⟨S65, .f32⟩
  | .hbm, ⟨95, _⟩ => ⟨S1x16, .f32⟩
  | .hbm, ⟨96, _⟩ => ⟨S16, .f32⟩
  | .hbm, ⟨97, _⟩ => ⟨S1x5, .f32⟩
  | .hbm, ⟨98, _⟩ => ⟨S5, .f32⟩
  | .hbm, ⟨99, _⟩ => ⟨S1x128, .f32⟩
  | .hbm, ⟨100, _⟩ => ⟨S128, .f32⟩
  | .hbm, ⟨101, _⟩ => ⟨S1x62, .f32⟩
  | .hbm, ⟨102, _⟩ => ⟨S62, .f32⟩
  | .hbm, ⟨103, _⟩ => ⟨S1x4, .f32⟩
  | .hbm, ⟨104, _⟩ => ⟨S4, .f32⟩
  | .hbm, ⟨105, _⟩ => ⟨S280, .f32⟩
  | .local _ .vmem, ⟨0, _⟩ => ⟨S256x1, .i32⟩
  | .local _ .vmem, ⟨1, _⟩ => ⟨S256x1, .i32⟩
  | .local _ .vmem, ⟨2, _⟩ => ⟨S256x1x1, .i32⟩
  | .local _ .vmem, ⟨3, _⟩ => ⟨S256x1x1, .i32⟩
  | .local _ .vmem, ⟨4, _⟩ => ⟨S256x64, .i32⟩
  | .local _ .vmem, ⟨5, _⟩ => ⟨S256x64, .i32⟩
  | .local _ .vmem, ⟨6, _⟩ => ⟨S256x32x128, .i32⟩
  | .local _ .vmem, ⟨7, _⟩ => ⟨S256x32x128, .i32⟩
  | .local _ .vmem, ⟨8, _⟩ => ⟨S1x32x128, .i32⟩
  | .local _ .vmem, ⟨9, _⟩ => ⟨S1x32x128, .i32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2x128, .f32⟩
  | .local _ .vmem, ⟨14, _⟩ => ⟨S8x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2x128, .f32⟩
  | _, _ => ⟨S8192x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v13 : Ref sig .tc := ⟨.hbm, 59, rfl⟩
abbrev main_v14 : Ref sig .tc := ⟨.hbm, 60, rfl⟩
abbrev main_cst : Ref sig .tc := ⟨.hbm, 61, rfl⟩
abbrev main_v15 : Ref sig .tc := ⟨.hbm, 62, rfl⟩
abbrev main_c_2 : Ref sig .tc := ⟨.hbm, 63, rfl⟩
abbrev main_v16 : Ref sig .tc := ⟨.hbm, 64, rfl⟩
abbrev main_c_3 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_4 : Ref sig .tc := ⟨.hbm, 69, rfl⟩
abbrev main_v20 : Ref sig .tc := ⟨.hbm, 70, rfl⟩
abbrev main_c_5 : Ref sig .tc := ⟨.hbm, 71, rfl⟩
abbrev main_v21 : Ref sig .tc := ⟨.hbm, 72, rfl⟩
abbrev main_c_6 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_7 : Ref sig .tc := ⟨.hbm, 77, rfl⟩
abbrev main_v25 : Ref sig .tc := ⟨.hbm, 78, rfl⟩
abbrev main_c_8 : Ref sig .tc := ⟨.hbm, 79, rfl⟩
abbrev main_v26 : Ref sig .tc := ⟨.hbm, 80, rfl⟩
abbrev main_c_9 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_10 : Ref sig .tc := ⟨.hbm, 85, rfl⟩
abbrev main_v30 : Ref sig .tc := ⟨.hbm, 86, rfl⟩
abbrev main_v31 : Ref sig .tc := ⟨.hbm, 87, rfl⟩
abbrev main_c_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_487 : BitVec 32 := 31#32
  let v3248 : BitVec 1 := Scalar.cmpi .eq arg0 c31_i32_487
  let v3249 : BitVec 32 := Scalar.extui v3248
  let c0_i32_488 : BitVec 32 := 0#32
  let v3250 : BitVec 1 := Scalar.cmpi .ne v3249 c0_i32_488
  v3250

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x64 : Shape := ⟨2, ![8192, 64]⟩
abbrev S8192x64x64 : Shape := ⟨3, ![8192, 64, 64]⟩
abbrev S8192 : Shape := ⟨1, ![8192]⟩
abbrev S65 : Shape := ⟨1, ![65]⟩
abbrev S16 : Shape := ⟨1, ![16]⟩
abbrev S5 : Shape := ⟨1, ![5]⟩
abbrev S190 : Shape := ⟨1, ![190]⟩
abbrev S64 : Shape := ⟨1, ![64]⟩
abbrev S1x64 : Shape := ⟨2, ![1, 64]⟩
abbrev S8192x1 : Shape := ⟨2, ![8192, 1]⟩
abbrev S_ : Shape := ⟨0, ![]⟩
abbrev S524288 : Shape := ⟨1, ![524288]⟩
abbrev S17 : Shape := ⟨1, ![17]⟩
abbrev S524288x1 : Shape := ⟨2, ![524288, 1]⟩
abbrev S64x64 : Shape := ⟨2, ![64, 64]⟩
abbrev S8192x64x1 : Shape := ⟨3, ![8192, 64, 1]⟩
abbrev S8192x1x64 : Shape := ⟨3, ![8192, 1, 64]⟩
abbrev S1x64x64 : Shape := ⟨3, ![1, 64, 64]⟩
abbrev S33554432 : Shape := ⟨1, ![33554432]⟩
abbrev S6 : Shape := ⟨1, ![6]⟩
abbrev S33554432x1 : Shape := ⟨2, ![33554432, 1]⟩
abbrev S191 : Shape := ⟨1, ![191]⟩
abbrev S1 : Shape := ⟨1, ![1]⟩
abbrev S4 : Shape := ⟨1, ![4]⟩
abbrev S280 : Shape := ⟨1, ![280]⟩

abbrev nBuf : Space → Nat
  | .hbm => 215
  | .vmem => 0
  | .smem => 0
  | _ => 0

abbrev hbmTy0_0 (i : Nat) : BufTy := match i % 128 with
  | 0 => ⟨S8192x64, .i32⟩
  | 1 => ⟨S8192x64x64, .i32⟩
  | 2 => ⟨S8192, .i32⟩
  | 3 => ⟨S65, .f32⟩
  | 4 => ⟨S16, .f32⟩
  | 5 => ⟨S5, .f32⟩
  | 6 => ⟨S190, .f32⟩
  | 7 => ⟨S64, .i32⟩
  | 8 => ⟨S1x64, .i32⟩
  | 9 => ⟨S8192x1, .i32⟩
  | 10 => ⟨S8192x64, .i32⟩
  | 11 => ⟨S8192x64, .i32⟩
  | 12 => ⟨S8192x64, .i1⟩
  | 13 => ⟨S_, .i32⟩
  | 14 => ⟨S_, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S65, .i32⟩
  | 23 => ⟨S_, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S_, .i32⟩
  | 36 => ⟨S8192, .i32⟩
  | 37 => ⟨S65, .i32⟩
  | 38 => ⟨S65, .f32⟩
  | 39 => ⟨S_, .i32⟩
  | 40 => ⟨S_, .i32⟩
  | 41 => ⟨S8192x64, .i32⟩
  | 42 => ⟨S8192x64, .i32⟩
  | 43 => ⟨S524288, .i32⟩
  | 44 => ⟨S_, .i32⟩
  | 45 => ⟨S17, .i32⟩
  | 46 => ⟨S_, .i32⟩
  | 47 => ⟨S_, .i32⟩
  | 48 => ⟨S524288, .i32⟩
  | 49 => ⟨S524288, .i32⟩
  | 50 => ⟨S_, .i32⟩
  | 51 => ⟨S524288, .i32⟩
  | 52 => ⟨S524288, .i1⟩
  | 53 => ⟨S_, .i32⟩
  | 54 => ⟨S524288, .i32⟩
  | 55 => ⟨S524288, .i32⟩
  | 56 => ⟨S524288, .i32⟩
  | 57 => ⟨S524288x1, .i32⟩
  | 58 => ⟨S_, .i32⟩
  | 59 => ⟨S524288, .i32⟩
  | 60 => ⟨S17, .i32⟩
  | 61 => ⟨S16, .i32⟩
  | 62 => ⟨S16, .f32⟩
  | 63 => ⟨S_, .i1⟩
  | 64 => ⟨S64x64, .i1⟩
  | 65 => ⟨S64x64, .i32⟩
  | 66 => ⟨S_, .i32⟩
  | 67 => ⟨S64x64, .i32⟩
  | 68 => ⟨S64x64, .i32⟩
  | 69 => ⟨S64x64, .i32⟩
  | 70 => ⟨S64x64, .i1⟩
  | 71 => ⟨S_, .i1⟩
  | 72 => ⟨S64x64, .i1⟩
  | 73 => ⟨S64x64, .i1⟩
  | 74 => ⟨S8192x64x1, .i1⟩
  | 75 => ⟨S8192x1x64, .i1⟩
  | 76 => ⟨S8192x64x64, .i1⟩
  | 77 => ⟨S8192x64x64, .i1⟩
  | 78 => ⟨S8192x64x64, .i1⟩
  | 79 => ⟨S1x64x64, .i1⟩
  | 80 => ⟨S8192x64x64, .i1⟩
  | 81 => ⟨S8192x64x64, .i1⟩
  | 82 => ⟨S_, .i32⟩
  | 83 => ⟨S_, .i32⟩
  | 84 => ⟨S8192x64x64, .i32⟩
  | 85 => ⟨S8192x64x64, .i32⟩
  | 86 => ⟨S33554432, .i32⟩
  | 87 => ⟨S_, .i32⟩
  | 88 => ⟨S6, .i32⟩
  | 89 => ⟨S_, .i32⟩
  | 90 => ⟨S_, .i32⟩
  | 91 => ⟨S33554432, .i32⟩
  | 92 => ⟨S33554432, .i32⟩
  | 93 => ⟨S_, .i32⟩
  | 94 => ⟨S33554432, .i32⟩
  | 95 => ⟨S33554432, .i1⟩
  | 96 => ⟨S_, .i32⟩
  | 97 => ⟨S33554432, .i32⟩
  | 98 => ⟨S33554432, .i32⟩
  | 99 => ⟨S33554432, .i32⟩
  | 100 => ⟨S33554432x1, .i32⟩
  | 101 => ⟨S_, .i32⟩
  | 102 => ⟨S33554432, .i32⟩
  | 103 => ⟨S6, .i32⟩
  | 104 => ⟨S5, .i32⟩
  | 105 => ⟨S5, .f32⟩
  | 106 => ⟨S8192x64x64, .f32⟩
  | 107 => ⟨S_, .i32⟩
  | 108 => ⟨S8192x64x64, .i32⟩
  | 109 => ⟨S8192x64x64, .i1⟩
  | 110 => ⟨S_, .f32⟩
  | 111 => ⟨S8192x64x64, .f32⟩
  | 112 => ⟨S8192x64x64, .f32⟩
  | 113 => ⟨S_, .f32⟩
  | 114 => ⟨S_, .f32⟩
  | 115 => ⟨S8192x64x64, .f32⟩
  | 116 => ⟨S8192x64x64, .f32⟩
  | 117 => ⟨S_, .f32⟩
  | 118 => ⟨S8192x64, .f32⟩
  | 119 => ⟨S8192x64, .f32⟩
  | 120 => ⟨S8192x64, .i32⟩
  | 121 => ⟨S_, .i32⟩
  | 122 => ⟨S_, .i32⟩
  | 123 => ⟨S_, .i32⟩
  | 124 => ⟨S8192x64, .i32⟩
  | 125 => ⟨S8192x64, .i32⟩
  | 126 => ⟨S_, .i32⟩
  | 127 => ⟨S8192x64, .i32⟩
  | _ => ⟨S8192x64, .i32⟩

abbrev hbmTy0_1 (i : Nat) : BufTy := match i % 128 with
  | 0 => ⟨S8192x64, .i32⟩
  | 1 => ⟨S_, .i32⟩
  | 2 => ⟨S_, .i32⟩
  | 3 => ⟨S8192x64, .i32⟩
  | 4 => ⟨S8192x64, .i32⟩
  | 5 => ⟨S524288, .i32⟩
  | 6 => ⟨S_, .i32⟩
  | 7 => ⟨S191, .i32⟩
  | 8 => ⟨S_, .i32⟩
  | 9 => ⟨S_, .i32⟩
  | 10 => ⟨S524288, .i32⟩
  | 11 => ⟨S524288, .i32⟩
  | 12 => ⟨S_, .i32⟩
  | 13 => ⟨S524288, .i32⟩
  | 14 => ⟨S524288, .i1⟩
  | 15 => ⟨S_, .i32⟩
  | 16 => ⟨S524288, .i32⟩
  | 17 => ⟨S524288, .i32⟩
  | 18 => ⟨S524288, .i32⟩
  | 19 => ⟨S524288x1, .i32⟩
  | 20 => ⟨S_, .i32⟩
  | 21 => ⟨S524288, .i32⟩
  | 22 => ⟨S191, .i32⟩
  | 23 => ⟨S190, .i32⟩
  | 24 => ⟨S190, .f32⟩
  | 25 => ⟨S_, .f32⟩
  | 26 => ⟨S_, .f32⟩
  | 27 => ⟨S65, .f32⟩
  | 28 => ⟨S65, .f32⟩
  | 29 => ⟨S_, .f32⟩
  | 30 => ⟨S_, .f32⟩
  | 31 => ⟨S16, .f32⟩
  | 32 => ⟨S16, .f32⟩
  | 33 => ⟨S_, .f32⟩
  | 34 => ⟨S_, .f32⟩
  | 35 => ⟨S5, .f32⟩
  | 36 => ⟨S5, .f32⟩
  | 37 => ⟨S_, .f32⟩
  | 38 => ⟨S_, .f32⟩
  | 39 => ⟨S190, .f32⟩
  | 40 => ⟨S190, .f32⟩
  | 41 => ⟨S_, .f32⟩
  | 42 => ⟨S_, .f32⟩
  | 43 => ⟨S65, .f32⟩
  | 44 => ⟨S65, .f32⟩
  | 45 => ⟨S_, .f32⟩
  | 46 => ⟨S_, .f32⟩
  | 47 => ⟨S16, .f32⟩
  | 48 => ⟨S16, .f32⟩
  | 49 => ⟨S_, .f32⟩
  | 50 => ⟨S_, .f32⟩
  | 51 => ⟨S5, .f32⟩
  | 52 => ⟨S5, .f32⟩
  | 53 => ⟨S_, .f32⟩
  | 54 => ⟨S_, .f32⟩
  | 55 => ⟨S190, .f32⟩
  | 56 => ⟨S190, .f32⟩
  | 57 => ⟨S65, .f32⟩
  | 58 => ⟨S65, .f32⟩
  | 59 => ⟨S_, .f32⟩
  | 60 => ⟨S_, .f32⟩
  | 61 => ⟨S_, .f32⟩
  | 62 => ⟨S_, .f32⟩
  | 63 => ⟨S16, .f32⟩
  | 64 => ⟨S16, .f32⟩
  | 65 => ⟨S_, .f32⟩
  | 66 => ⟨S_, .f32⟩
  | 67 => ⟨S_, .f32⟩
  | 68 => ⟨S_, .f32⟩
  | 69 => ⟨S5, .f32⟩
  | 70 => ⟨S5, .f32⟩
  | 71 => ⟨S_, .f32⟩
  | 72 => ⟨S_, .f32⟩
  | 73 => ⟨S_, .f32⟩
  | 74 => ⟨S_, .f32⟩
  | 75 => ⟨S190, .f32⟩
  | 76 => ⟨S190, .f32⟩
  | 77 => ⟨S_, .f32⟩
  | 78 => ⟨S_, .f32⟩
  | 79 => ⟨S_, .f32⟩
  | 80 => ⟨S_, .f32⟩
  | 81 => ⟨S1, .f32⟩
  | 82 => ⟨S1, .f32⟩
  | 83 => ⟨S1, .f32⟩
  | 84 => ⟨S1, .f32⟩
  | 85 => ⟨S4, .f32⟩
  | 86 => ⟨S280, .f32⟩
  | _ => ⟨S8192x64, .i32⟩

abbrev hbmTy (i : Nat) : BufTy := match i / 128 with
  | 0 => hbmTy0_0 i
  | 1 => hbmTy0_1 i
  | _ => ⟨S8192x64, .i32⟩

abbrev bufTy : (tb : Table) → Fin (tcTables nBuf tb) → BufTy
  | .hbm, ⟨i, _⟩ => hbmTy i
  | _, _ => ⟨S8192x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_call2_v0 : Ref sig .tc := ⟨.hbm, 40, rfl⟩
abbrev main_call2_v1 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_c_8 : Ref sig .tc := ⟨.hbm, 46, rfl⟩
abbrev main_call3_v0 : Ref sig .tc := ⟨.hbm, 47, rfl⟩
abbrev main_call3_v1 : Ref sig .tc := ⟨.hbm, 48, rfl⟩
abbrev main_v21 : Ref sig .tc := ⟨.hbm, 49, rfl⟩
abbrev main_c_9 : Ref sig .tc := ⟨.hbm, 50, rfl⟩
abbrev main_v22 : Ref sig .tc := ⟨.hbm, 51, rfl⟩
abbrev main_v23 : Ref sig .tc := ⟨.hbm, 52, rfl⟩
abbrev main_c_10 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_11 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_12 : Ref sig .tc := ⟨.hbm, 63, rfl⟩
abbrev main_v32 : Ref sig .tc := ⟨.hbm, 64, rfl⟩
abbrev main_call4_v0 : Ref sig .tc := ⟨.hbm, 65, rfl⟩
abbrev main_call4_c : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_c_0 : Ref sig .tc := ⟨.hbm, 71, rfl⟩
abbrev main_call4_v5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_13 : Ref sig .tc := ⟨.hbm, 82, rfl⟩
abbrev main_call5_v0 : Ref sig .tc := ⟨.hbm, 83, rfl⟩
abbrev main_call5_v1 : Ref sig .tc := ⟨.hbm, 84, rfl⟩
abbrev main_v42 : Ref sig .tc := ⟨.hbm, 85, rfl⟩
abbrev main_v43 : Ref sig .tc := ⟨.hbm, 86, rfl⟩
abbrev main_c_14 : Ref sig .tc := ⟨.hbm, 87, rfl⟩
abbrev main_v44 : Ref sig .tc := ⟨.hbm, 88, rfl⟩
abbrev main_c_15 : Ref sig .tc := ⟨.hbm, 89, rfl⟩
abbrev main_call6_v0 : Ref sig .tc := ⟨.hbm, 90, rfl⟩
abbrev main_call6_v1 : Ref sig .tc := ⟨.hbm, 91, rfl⟩
abbrev main_v45 : Ref sig .tc := ⟨.hbm, 92, rfl⟩
abbrev main_c_16 : Ref sig .tc := ⟨.hbm, 93, rfl⟩
abbrev main_v46 : Ref sig .tc := ⟨.hbm, 94, rfl⟩
abbrev main_v47 : Ref sig .tc := ⟨.hbm, 95, rfl⟩
abbrev main_c_17 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_18 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_c_19 : Ref sig .tc := ⟨.hbm, 107, rfl⟩
abbrev main_v57 : Ref sig .tc := ⟨.hbm, 108, rfl⟩
abbrev main_v58 : Ref sig .tc := ⟨.hbm, 109, rfl⟩
abbrev main_cst : Ref sig .tc := ⟨.hbm, 110, rfl⟩
abbrev main_call7_v0 : Ref sig .tc := ⟨.hbm, 111, rfl⟩
abbrev main_v59 : Ref sig .tc := ⟨.hbm, 112, rfl⟩
abbrev main_cst_20 : Ref sig .tc := ⟨.hbm, 113, rfl⟩
abbrev main_call8_v0 : Ref sig .tc := ⟨.hbm, 114, rfl⟩
abbrev main_call8_v1 : Ref sig .tc := ⟨.hbm, 115, rfl⟩
abbrev main_v60 : Ref sig .tc := ⟨.hbm, 116, rfl⟩
abbrev main_cst_21 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_22 : Ref sig .tc := ⟨.hbm, 121, rfl⟩
abbrev main_c_23 : Ref sig .tc := ⟨.hbm, 122, rfl⟩
abbrev main_call9_v0 : Ref sig .tc := ⟨.hbm, 123, rfl⟩
abbrev main_call9_v1 : Ref sig .tc := ⟨.hbm, 124, rfl⟩
abbrev main_call9_v2 : Ref sig .tc := ⟨.hbm, 125, rfl⟩
abbrev main_call9_v3 : Ref sig .tc := ⟨.hbm, 126, rfl⟩
abbrev main_call9_v4 : Ref sig .tc := ⟨.hbm, 127, rfl⟩
abbrev main_v64 : Ref sig .tc := ⟨.hbm, 128, rfl⟩
abbrev main_c_24 : Ref sig .tc := ⟨.hbm, 129, rfl⟩
abbrev main_call10_v0 : Ref sig .tc := ⟨.hbm, 130, rfl⟩
abbrev main_call10_v1 : Ref sig .tc := ⟨.hbm, 131, rfl⟩
abbrev main_v65 : Ref sig .tc := ⟨.hbm, 132, rfl⟩
abbrev main_v66 : Ref sig .tc := ⟨.hbm, 133, rfl⟩
abbrev main_c_25 : Ref sig .tc := ⟨.hbm, 134, rfl⟩
abbrev main_v67 : Ref sig .tc := ⟨.hbm, 135, rfl⟩
abbrev main_c_26 : Ref sig .tc := ⟨.hbm, 136, rfl⟩
abbrev main_call11_v0 : Ref sig .tc := ⟨.hbm, 137, rfl⟩
abbrev main_call11_v1 : Ref sig .tc := ⟨.hbm, 138, rfl⟩
abbrev main_v68 : Ref sig .tc := ⟨.hbm, 139, rfl⟩
abbrev main_c_27 : Ref sig .tc := ⟨.hbm, 140, rfl⟩
abbrev main_v69 : Ref sig .tc := ⟨.hbm, 141, rfl⟩
abbrev main_v70 : Ref sig .tc := ⟨.hbm, 142, rfl⟩
abbrev main_c_28 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_c_29 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_30 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_cst_31 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_cst_32 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_33 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_34 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_35 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_cst_36 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_37 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_cst_38 : Ref sig .tc := ⟨.hbm, 187, rfl⟩
abbrev main_v105 : Ref sig .tc := ⟨.hbm, 188, rfl⟩
abbrev main_cst_39 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_40 : Ref sig .tc := ⟨.hbm, 193, rfl⟩
abbrev main_v109 : Ref sig .tc := ⟨.hbm, 194, rfl⟩
abbrev main_cst_41 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_cst_42 : Ref sig .tc := ⟨.hbm, 199, rfl⟩
abbrev main_v113 : Ref sig .tc := ⟨.hbm, 200, rfl⟩
abbrev main_cst_43 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_cst_44 : Ref sig .tc := ⟨.hbm, 205, rfl⟩
abbrev main_v117 : Ref sig .tc := ⟨.hbm, 206, rfl⟩
abbrev main_cst_45 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩

abbrev nD : Nat := 1
abbrev τ : Topo := Topo.v7x

variable {F : FTy → Type} [FloatOps F]
-- ==== Proof.Tree.lean ====
/- Sums taken pairwise: what a list of vectors adds up to when neighbours are added, then neighbours of the sums, and so on. -/
module

public import Idealize.ShloMosaic.Lib.Pointwise

@[expose] public section

noncomputable section

namespace Cert.Hist

open Idealize.ShloMosaic

/-- One round: each two neighbours of the list become their sum, an odd last one stays. -/
def pairUp {α : Type} (f : α → α → α) : List α → List α
  | a :: b :: l => f a b :: pairUp f l
  | [a] => [a]
  | [] => []

/-- `k` rounds, then the head of the list (`z` for the empty one). -/
def treeSum {α : Type} (f : α → α → α) (z : α) : Nat → List α → α
  | 0, l => l.headD z
  | k + 1, l => treeSum f z k (pairUp f l)

/-- A round leaves half of the list, rounded up. -/
theorem length_pairUp {α : Type} (f : α → α → α) : ∀ l : List α, (pairUp f l).length = (l.length + 1) / 2
  | a :: b :: l => by
    simp only [pairUp, List.length_cons, length_pairUp f l]; omega
  | [a] => by simp [pairUp]
  | [] => by simp [pairUp]

/-- A map to a commutative monoid that takes `f` to the addition sends a round's list to the same sum. -/
theorem sum_pairUp {α M : Type} [AddCommMonoid M] (f : α → α → α) (g : α → M) (hg : ∀ a b, g (f a b) = g a + g b) :
    ∀ l : List α, ((pairUp f l).map g).sum = (l.map g).sum
  | a :: b :: l => by
    simp only [pairUp, List.map_cons, List.sum_cons, hg, sum_pairUp f g hg l, add_assoc]
  | [a] => rfl
  | [] => rfl

/-- A map to a commutative monoid that takes `f` to the addition sends the pairwise sum of a nonempty list of at most `2 ^ k` to the plain sum. -/
theorem map_treeSum {α M : Type} [AddCommMonoid M] (f : α → α → α) (z : α) (g : α → M) (hg : ∀ a b, g (f a b) = g a + g b) :
    ∀ (k : Nat) (l : List α), 0 < l.length → l.length ≤ 2 ^ k → g (treeSum f z k l) = (l.map g).sum
  | 0, [a], _, _ => by simp [treeSum]
  | 0, a :: b :: l, _, h => by simp at h
  | k + 1, l, h0, h => by
    rw [treeSum, map_treeSum f z g hg k (pairUp f l) (by rw [length_pairUp]; omega) (by rw [length_pairUp]; rw [pow_succ] at h; omega), sum_pairUp f g hg]

/-- The pairwise sum of `n` vectors `t 0, …, t (n - 1)` of extended reals, read at an index. -/
theorem treeSum_apply {S : Shape} (t : Nat → FVec Ideal S .f32) (z : FVec Ideal S .f32) (k n : Nat) (h0 : 0 < n) (h : n ≤ 2 ^ k) (i : S.Idx) :
    treeSum addf z k ((List.range n).map t) i = (∑ b ∈ Finset.range n, t b i : EReal) := by
  refine (map_treeSum (M := EReal) addf z (fun v : FVec Ideal S .f32 => (v i : EReal)) (fun a b => rfl) k _ (by simpa using h0) (by simpa using h)).trans ?_
  rw [List.map_map]
  induction n with
  | zero => omega
  | succ n ih =>
    clear ih
    rw [Finset.sum_range]
    rw [← List.sum_ofFn, List.ofFn_eq_map]
    rw [← List.map_coe_finRange_eq_range, List.map_map]
    rfl

end Cert.Hist
-- ==== Proof.Count.lean ====
/- A histogram by scattered additions: ones scattered into a vector of zeros count, at each entry, the index words that name it. -/
module

public import Idealize.ShloMosaic.Lib.Routing.OpsOne
public import Idealize.ShloMosaic.Lib.Pointwise

@[expose] public section

noncomputable section

namespace Cert.Hist

open Idealize.ShloMosaic Idealize.ShloMosaic.ValueIdx Idealize.ShloMosaic.Routing

/-- Where one of `M` scalars lands in a vector of `N`: at the entry that its index word, read signed, names. -/
theorem lands_entry {N M : Nat} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ValueIdx.ix1 i) idx = some (ValueIdx.ix1 x) ↔ (idx (ValueIdx.ix2 i (0 : Fin 1))).toInt = (x.val : Int) := by
  have hm : (0 : Fin 1) ∈ d.scatterDimsToOperandDims := by rw [hsd]; exact List.mem_singleton.2 rfl
  have hw : d.window (ValueIdx.ix1 i) 0 = 0 := by
    unfold ScatterDims.window
    rw [dif_neg fun h => (of_decide_eq_true (List.mem_filter.1 h).2) (by rw [hiw]; exact List.mem_singleton.2 rfl)]
  have hs : d.start (ValueIdx.ix1 i) idx 0 = (idx (ValueIdx.ix2 i (0 : Fin 1))).toInt := by
    unfold ScatterDims.start
    rw [dif_pos hm]
    refine congrArg (fun q => (idx q).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have e : ∀ q : Fin 1, (ValueIdx.ix1 i q).val = i.val := fun q => by
        obtain rfl : q = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  rw [resultIdx?_ix1, hs, hw]
  simp

/-- The entry `x` of the scatter-addition of `M` ones into `N` zeros is the number of index words that, read signed, are `x`. -/
theorem scatter_ones {N M : Nat} (d : ScatterDims (shape1 N) (shape2 M 1) (shape1 M)) (hiw : d.insertedWindowDims = [0])
    (hsd : d.scatterDimsToOperandDims = [0]) (hivd : d.indexVectorDim = 1) (z : IVec (shape1 N) 32) (hz : ∀ i, z i = 0#32)
    (idx : IVec (shape2 M 1) 32) (one : IVec (shape1 M) 32) (h1 : ∀ i, one i = 1#32) (x : Fin N) :
    Host.scatter d IntOp.addi z idx one (ValueIdx.ix1 x)
      = BitVec.ofNat 32 (Finset.univ.filter fun k : Fin M => (idx (ValueIdx.ix2 k (0 : Fin 1))).toInt = (x.val : Int)).card := by
  rw [scatter_at, hz]
  have key : ∀ (l : List (Fin (shape1 M).numel)) (a : Nat),
      l.foldl (fun a n => if d.resultIdx? ((shape1 M).rowMajor.symm n) idx = some (ValueIdx.ix1 x) then IntOp.addi a (one ((shape1 M).rowMajor.symm n)) else a)
          (BitVec.ofNat 32 a)
        = BitVec.ofNat 32 (a + l.countP fun n => (idx (ValueIdx.ix2 (n.cast (numel1 M)) (0 : Fin 1))).toInt = (x.val : Int)) := by
    intro l
    induction l with
    | nil => intro a; rfl
    | cons n l ih =>
      intro a
      rw [List.foldl_cons, List.countP_cons, symm1, h1]
      by_cases h : (idx (ValueIdx.ix2 (n.cast (numel1 M)) (0 : Fin 1))).toInt = (x.val : Int)
      · rw [if_pos ((lands_entry d hiw hsd hivd idx _ x).2 h), if_pos (decide_eq_true h)]
        have e : IntOp.addi (BitVec.ofNat 32 a) 1#32 = BitVec.ofNat 32 (a + 1) := (BitVec.ofNat_add a 1).symm
        rw [e, ih (a + 1)]
        congr 1; omega
      · rw [if_neg fun q => h ((lands_entry d hiw hsd hivd idx _ x).1 q), if_neg fun q => h (of_decide_eq_true q)]
        exact ih a
  refine (key _ 0).trans ?_
  rw [Nat.zero_add]
  congr 1
  rw [List.countP_eq_length_filter, ← List.toFinset_card_of_nodup ((List.nodup_finRange _).filter _)]
  refine Finset.card_bij (fun n _ => n.cast (numel1 M)) (fun n hn => ?_) (fun a _ b _ h => ?_) (fun k hk => ⟨k.cast (numel1 M).symm, ?_, ?_⟩)
  · simpa using hn
  · exact Fin.ext (Fin.ext_iff.1 h :)
  · simpa using hk
  · exact Fin.ext rfl

/-- One or zero, as `p` says. -/
def ind (p : Prop) [Decidable p] : EReal := if p then 1 else 0

/-- Equal conditions have equal indicators. -/
theorem ind_congr {p q : Prop} [Decidable p] [Decidable q] (h : p ↔ q) : ind p = ind q := by
  unfold ind; simp only [h]

/-- The word of a count of fewer than `2 ^ 31` things, as an extended real: the sum of ones over them. -/
theorem count_cast {ι : Type} [Fintype ι] (p : ι → Prop) [DecidablePred p] (hι : Fintype.card ι < 2 ^ 31) :
    (((BitVec.ofNat 32 (Finset.univ.filter p).card).toInt : ℝ) : EReal) = ∑ k, ind (p k) := by
  rw [StableHlo.Predicate.toInt_ofNat_small _ (lt_of_le_of_lt (Finset.card_le_univ _) hι)]
  unfold ind
  rw [Finset.sum_ite, Finset.sum_const_zero, add_zero, Finset.sum_const, nsmul_one]
  simp

end Cert.Hist
-- ==== Proof.Step.lean ====
/- What one grid point of the kernel adds to its four running histograms, as functions of the blocks it reads; each histogram's sum of selected counts is one pairwise sum of equal terms. -/
module

public import proofs.«01_k».proof.Proof.Gen.KernelIdeal.Skeleton
public import proofs.«01_k».proof.Proof.Tree
public import proofs.«01_k».proof.Proof.Count

@[expose] public section

noncomputable section

namespace Cert.Hist

open Idealize.ShloMosaic Cert.KernelIdeal Cert.KernelIdeal.Gen

variable {F : FTy → Type} [FloatOps F]

/-- The lane number of each entry of a row. -/
def laneW : IVec S1x128 32 := iota .tc S1x128 32 [1] iota_S1x128_d1_w32

/-- One at the lanes that are `c`, zero elsewhere. -/
def hit {S : Shape} (lane : IVec S 32) (c : BitVec 32) : FVec F S .f32 := sitofp .f32 (extui 32 (cmpi .eq lane (broadcast S c)) natLt_1_32)

/-- How many entries of a block of 256 rows of 64 words are `c`. -/
def total2 (w : IVec S256x64 32) (c : BitVec 32) : F .f32 :=
  extractAt ![0, 0, 0] (shapeCast S1x1x1 (multiReduction .add [1, 2] S1 (shapeCast S1x256x64 (sitofp (F := F) .f32 (extui 32 (cmpi .eq w (broadcast S256x64 c)) natLt_1_32)) shapeCasts_S256x64_S1x256x64)
    0x00000000#32 reduces_S1x256x64_S1 (.inl rfl) rfl) shapeCasts_S1_S1x1x1) inpos_S1x1x1_p0_0_0

/-- How many entries of a block of 256 tables of 32 by 128 words are `c`. -/
def total3 (w : IVec S256x32x128 32) (c : BitVec 32) : F .f32 :=
  extractAt ![0, 0, 0, 0] (shapeCast S1x1x1x1 (multiReduction .add [1, 2, 3] S1 (shapeCast S1x256x32x128 (sitofp (F := F) .f32 (extui 32 (cmpi .eq w (broadcast S256x32x128 c)) natLt_1_32))
    shapeCasts_S256x32x128_S1x256x32x128) 0x00000000#32 reduces_S1x256x32x128_S1 (.inl rfl) rfl) shapeCasts_S1_S1x1x1x1) inpos_S1x1x1x1_p0_0_0_0

/-- The count `tot c` at the lanes that are `c`, zero elsewhere. -/
def leaf {S : Shape} (lane : IVec S 32) (tot : BitVec 32 → F .f32) (c : BitVec 32) : FVec F S .f32 := mulf (broadcast S (tot c)) (hit lane c)

/-- The first `n` of these terms, added pairwise in `k` rounds. -/
def leaves {S : Shape} (lane : IVec S 32) (tot : BitVec 32 → F .f32) (z : FVec F S .f32) (k n : Nat) : FVec F S .f32 :=
  treeSum addf z k ((List.range n).map fun b => leaf lane tot (BitVec.ofNat 32 b))

/-- The histogram of molecule sizes after a point. -/
def stepN (x0 : Vec F S256x1 .i32) (acc : FVec F S1x128 .f32) : FVec F S1x128 .f32 := k0_pay27 acc (k0_pay26 x0)

/-- The atom types that the block counts, 31 where there is no atom. -/
def wordA (x0 : Vec F S256x1 .i32) (x2 : Vec F S256x64 .i32) : IVec S256x64 32 := k0_pay28 (F := F) x2 (k0_pay25 x0)

/-- The edge types that the block counts, 7 where there is no edge. -/
def wordE (x1 : Vec F S256x1x1 .i32) (x3 : Vec F S256x32x128 .i32) (x4 x5 : Vec F S1x32x128 .i32) : IVec S256x32x128 32 :=
  k0_pay52 (k0_pay21 x1) (k0_pay22 x3) (k0_pay23 x4) (k0_pay24 x5)

/-- The valencies that the block counts, 200 where there is no atom. -/
def wordV (x0 : Vec F S256x1 .i32) (x1 : Vec F S256x1x1 .i32) (x3 : Vec F S256x32x128 .i32) (x4 : Vec F S1x32x128 .i32) : IVec S256x64 32 :=
  k0_pay57 (F := F) (k0_pay22 x3) (k0_pay25 x0) (k0_pay51 (k0_pay21 x1) (k0_pay23 x4)) 4#32

/-- The histogram of atom types after a point. -/
def stepA (x0 : Vec F S256x1 .i32) (x2 : Vec F S256x64 .i32) (acc : FVec F S1x128 .f32) : FVec F S1x128 .f32 :=
  shapeCast S1x128 (addf acc (leaves laneW (total2 (wordA x0 x2)) acc 4 16)) shapeCasts_S1x128_S1x128

/-- The histogram of edge types after a point. -/
def stepE (x1 : Vec F S256x1x1 .i32) (x3 : Vec F S256x32x128 .i32) (x4 x5 : Vec F S1x32x128 .i32) (acc : FVec F S1x128 .f32) : FVec F S1x128 .f32 :=
  shapeCast S1x128 (addf acc (leaves laneW (total3 (wordE x1 x3 x4 x5)) acc 3 5)) shapeCasts_S1x128_S1x128

/-- The histogram of valencies after a point. -/
def stepV (x0 : Vec F S256x1 .i32) (x1 : Vec F S256x1x1 .i32) (x3 : Vec F S256x32x128 .i32) (x4 : Vec F S1x32x128 .i32) (acc : FVec F S2x128 .f32) : FVec F S2x128 .f32 :=
  shapeCast S2x128 (addf acc (leaves k0_pay19 (total2 (wordV x0 x1 x3 x4)) acc 8 190)) shapeCasts_S2x128_S2x128

end Cert.Hist
-- ==== Proof.Pieces.lean ====
/- What the kernel leaves in its four scratch histograms at a grid point. -/
module

public import proofs.«01_k».proof.Proof.Gen.KernelIdeal.Frame
public import proofs.«01_k».proof.Proof.Step

@[expose] public section

set_option maxRecDepth 16384

noncomputable section

namespace Cert.Hist

open Idealize.ShloMosaic Idealize.ShloMosaic.Tactic Cert.KernelIdeal Cert.KernelIdeal.Gen

variable {F : FTy → Type} [FloatOps F]
variable (m : (ℓ : Loc nD τ sig) → Buf (Elt F) ℓ)

/-- The zero offset of two axes. -/
theorem off2 : (![0, 0] : Fin 2 → Nat) = fun _ => 0 := funext fun a => by fin_cases a <;> rfl
/-- The zero offset of three axes. -/
theorem off3 : (![0, 0, 0] : Fin 3 → Nat) = fun _ => 0 := funext fun a => by fin_cases a <;> rfl

/-- A whole scratch row reads what was put into it. -/
theorem read_row (r : Memref sig .tc .vmem S1x128 .f32) (h : r.IsWhole) (X : Vec F S1x128 .f32) : r.view.read (Elt F) (h.unread X) = X := h.read_unread X

/-- A whole scratch pair of rows reads what was put into it. -/
theorem read_rows (r : Memref sig .tc .vmem S2x128 .f32) (h : r.IsWhole) (X : Vec F S2x128 .f32) : r.view.read (Elt F) (h.unread X) = X := h.read_unread X

/-- The four histograms left at a point that is neither the first nor the last, from those left before it. -/
theorem scratch_B (c : Dev nD) (t : Fin cfg0.N) (h0 : ¬t.val % 32 = 0) (h1 : ¬t.val % 32 = 31) (s : Vec F S8x128 .f32 × Vec F S1x128 .f32 × Vec F S1x128 .f32 × Vec F S1x128 .f32 × Vec F S2x128 .f32)
    (hs : outsAt0 m c (t.val - 1) (Nat.lt_of_le_of_lt (Nat.sub_le _ _) t.isLt) = s) :
    (outsAt0 m c t.val t.isLt).2 = (stepN (iblk m c 0 t) s.2.1, stepA (iblk m c 0 t) (iblk m c 2 t) s.2.2.1,
      stepE (iblk m c 1 t) (iblk m c 3 t) (iblk m c 4 t) (iblk m c 5 t) s.2.2.2.1, stepV (iblk m c 0 t) (iblk m c 1 t) (iblk m c 3 t) (iblk m c 4 t) s.2.2.2.2) := by
  rw [outsAt0_B m c t h0 h1, hs]
  refine Prod.ext ?_ (Prod.ext ?_ (Prod.ext ?_ ?_)) <;> dsimp only
  · unfold sout0_B_0
    refine (View.read_writes_eq_canon _ _ _ fun y => scover0_B_0 ..).trans ?_
    unfold kernelRun0_B
    dsimp only
    sl_unfold_words
    rw [View.canon_unit_zero (S := S1x128) off2]
    simp only [View.readAt_eq_ld, (hs0_0 t).read_unread, View.ld_unit_zero (S := S1x128) off2, View.ld_unit_zero (S := S256x1) off2]
    exact congrArg (stepN _) (read_row (Memref.whole cc0_scratch0) (Memref.isWhole_whole _) s.2.1)
  · unfold sout0_B_1
    refine (View.read_writes_eq_canon _ _ _ fun y => scover0_B_1 ..).trans ?_
    unfold kernelRun0_B
    dsimp only
    sl_unfold_words
    rw [View.canon_unit_zero (S := S1x128) off2]
    simp only [View.readAt_eq_ld, (hs0_0 t).read_unread, (hs0_2 t).read_unread, View.ld_unit_zero (S := S1x128) off2, View.ld_unit_zero (S := S256x1) off2, View.ld_unit_zero (S := S256x64) off2]
    refine Eq.trans ?_ (congrArg (stepA _ _) (read_row (Memref.whole cc0_scratch1) (Memref.isWhole_whole _) s.2.2.1))
    rfl
  · unfold sout0_B_2
    refine (View.read_writes_eq_canon _ _ _ fun y => scover0_B_2 ..).trans ?_
    unfold kernelRun0_B
    dsimp only
    sl_unfold_words
    rw [View.canon_unit_zero (S := S1x128) off2]
    simp only [View.readAt_eq_ld, (hs0_1 t).read_unread, (hs0_3 t).read_unread, (hs0_4 t).read_unread, (hs0_5 t).read_unread, View.ld_unit_zero (S := S1x128) off2, View.ld_unit_zero (S := S256x1x1) off3,
      View.ld_unit_zero (S := S256x32x128) off3, View.ld_unit_zero (S := S1x32x128) off3]
    refine Eq.trans ?_ (congrArg (stepE _ _ _ _) (read_row (Memref.whole cc0_scratch2) (Memref.isWhole_whole _) s.2.2.2.1))
    rfl
  · unfold sout0_B_3
    refine (View.read_writes_eq_canon _ _ _ fun y => scover0_B_3 ..).trans ?_
    unfold kernelRun0_B
    dsimp only
    sl_unfold_words
    rw [View.canon_unit_zero (S := S2x128) off2]
    simp only [View.readAt_eq_ld, (hs0_0 t).read_unread, (hs0_1 t).read_unread, (hs0_3 t).read_unread, (hs0_4 t).read_unread, View.ld_unit_zero (S := S2x128) off2, View.ld_unit_zero (S := S256x1) off2, View.ld_unit_zero (S := S256x1x1) off3,
      View.ld_unit_zero (S := S256x32x128) off3, View.ld_unit_zero (S := S1x32x128) off3]
    refine Eq.trans ?_ (congrArg (stepV _ _ _ _) (read_rows (Memref.whole cc0_scratch3) (Memref.isWhole_whole _) s.2.2.2.2))
    rfl

/-- The four histograms left at the first point, which starts each of them at zero. -/
theorem scratch_A (c : Dev nD) (t : Fin cfg0.N) (h0 : t.val % 32 = 0) (h1 : ¬t.val % 32 = 31) :
    (outsAt0 m c t.val t.isLt).2 = (stepN (iblk m c 0 t) k0_pay15, stepA (iblk m c 0 t) (iblk m c 2 t) k0_pay16,
      stepE (iblk m c 1 t) (iblk m c 3 t) (iblk m c 4 t) (iblk m c 5 t) k0_pay17, stepV (iblk m c 0 t) (iblk m c 1 t) (iblk m c 3 t) (iblk m c 4 t) k0_pay18) := by
  rw [outsAt0_A m c t h0 h1]
  refine Prod.ext ?_ (Prod.ext ?_ (Prod.ext ?_ ?_)) <;> dsimp only
  · unfold sout0_A_0
    refine (View.read_writes_eq_canon _ _ _ fun y => scover0_A_0 ..).trans ?_
    unfold kernelRun0_A
    dsimp only
    sl_unfold_words
    rw [View.canon_cons_unit_zero (S := S1x128) off2, View.readCov_unit_zero (S := S1x128) _ off2]
    simp only [View.readAt_eq_ld, (hs0_0 t).read_unread, View.ld_unit_zero (S := S256x1) off2]
    rfl
  · unfold sout0_A_1
    refine (View.read_writes_eq_canon _ _ _ fun y => scover0_A_1 ..).trans ?_
    unfold kernelRun0_A
    dsimp only
    sl_unfold_words
    rw [View.canon_cons_unit_zero (S := S1x128) off2, View.readCov_unit_zero (S := S1x128) _ off2]
    simp only [View.readAt_eq_ld, (hs0_0 t).read_unread, (hs0_2 t).read_unread, View.ld_unit_zero (S := S256x1) off2, View.ld_unit_zero (S := S256x64) off2]
    rfl
  · unfold sout0_A_2
    refine (View.read_writes_eq_canon _ _ _ fun y => scover0_A_2 ..).trans ?_
    unfold kernelRun0_A
    dsimp only
    sl_unfold_words
    rw [View.canon_cons_unit_zero (S := S1x128) off2, View.readCov_unit_zero (S := S1x128) _ off2]
    simp only [View.readAt_eq_ld, (hs0_1 t).read_unread, (hs0_3 t).read_unread, (hs0_4 t).read_unread, (hs0_5 t).read_unread, View.ld_unit_zero (S := S256x1x1) off3,
      View.ld_unit_zero (S := S256x32x128) off3, View.ld_unit_zero (S := S1x32x128) off3]
    rfl
  · unfold sout0_A_3
    refine (View.read_writes_eq_canon _ _ _ fun y => scover0_A_3 ..).trans ?_
    unfold kernelRun0_A
    dsimp only
    sl_unfold_words
    rw [View.canon_cons_unit_zero (S := S2x128) off2, View.readCov_unit_zero (S := S2x128) _ off2]
    simp only [View.readAt_eq_ld, (hs0_0 t).read_unread, (hs0_1 t).read_unread, (hs0_3 t).read_unread, (hs0_4 t).read_unread, View.ld_unit_zero (S := S256x1) off2, View.ld_unit_zero (S := S256x1x1) off3,
      View.ld_unit_zero (S := S256x32x128) off3, View.ld_unit_zero (S := S1x32x128) off3]
    rfl

end Cert.Hist
-- ==== Proof.Out.lean ====
/- What the kernel writes out at the last grid point. -/
module

public import proofs.«01_k».proof.Proof.Pieces

@[expose] public section

set_option maxRecDepth 16384

noncomputable section

namespace Cert.Hist

open Idealize.ShloMosaic Idealize.ShloMosaic.Tactic Cert.KernelIdeal Cert.KernelIdeal.Gen

variable {F : FTy → Type} [FloatOps F]
variable (m : (ℓ : Loc nD τ sig) → Buf (Elt F) ℓ)

/-- The row of the four mean absolute errors, from the four final histograms and the four targets. -/
def errorRow (nh ah eh : FVec F S1x128 .f32) (vh : FVec F S2x128 .f32) (tn ta te : FVec F S1x128 .f32) (tv : FVec F S2x128 .f32) : FVec F S1x128 .f32 :=
  k0_pay14 laneW (k0_pay5 ah ah) (k0_pay6 eh eh) (k0_pay7 vh vh) (k0_pay10 ta ta) (k0_pay11 te te) (k0_pay12 tv tv) (k0_pay13 (k0_pay4 nh nh) (k0_pay8 tn) (k0_pay9 tn)) (Scalar.ofBits .f32 0x42820000#32)

/-- The stores into the output block, the last one first. -/
def outPieces (nh ah eh : FVec F S1x128 .f32) (vh : FVec F S2x128 .f32) (tn ta te : FVec F S1x128 .f32) (tv : FVec F S2x128 .f32) : List (View.Piece (Elt F) S8x128 .f32) :=
  [⟨Rect.unit (s := S8x128) ![6, 0] S2x128.size inb_S8x128_S2x128_6_0, k0_pay3 (F := F)⟩,
   ⟨Rect.unit (s := S8x128) ![5, 0] S1x128.size inb_S8x128_S1x128_5_0, errorRow nh ah eh vh tn ta te tv⟩,
   ⟨Rect.unit (s := S8x128) ![3, 0] S2x128.size inb_S8x128_S2x128_3_0, k0_pay7 vh vh⟩,
   ⟨Rect.unit (s := S8x128) ![2, 0] S1x128.size inb_S8x128_S1x128_2_0, k0_pay6 eh eh⟩,
   ⟨Rect.unit (s := S8x128) ![1, 0] S1x128.size inb_S8x128_S1x128_1_0, k0_pay5 ah ah⟩,
   ⟨Rect.unit (s := S8x128) ![0, 0] S1x128.size inb_S8x128_S1x128_0_0, k0_pay4 nh nh⟩]

/-- Equal histograms make equal stores. -/
theorem outPieces_congr {nh nh' ah ah' eh eh' : FVec F S1x128 .f32} {vh vh' : FVec F S2x128 .f32} (tn ta te : FVec F S1x128 .f32) (tv : FVec F S2x128 .f32)
    (hn : nh = nh') (ha : ah = ah') (he : eh = eh') (hv : vh = vh') : outPieces nh ah eh vh tn ta te tv = outPieces nh' ah' eh' vh' tn ta te tv := by
  rw [hn, ha, he, hv]

/-- The output block at the last point, from the histograms left before it. -/
theorem out_C (c : Dev nD) (t : Fin cfg0.N) (h0 : ¬t.val % 32 = 0) (h1 : t.val % 32 = 31) (s : Vec F S8x128 .f32 × Vec F S1x128 .f32 × Vec F S1x128 .f32 × Vec F S1x128 .f32 × Vec F S2x128 .f32)
    (hs : outsAt0 m c (t.val - 1) (Nat.lt_of_le_of_lt (Nat.sub_le _ _) t.isLt) = s) :
    (outsAt0 m c t.val t.isLt).1 = View.canon (outPieces (stepN (iblk m c 0 t) s.2.1) (stepA (iblk m c 0 t) (iblk m c 2 t) s.2.2.1)
      (stepE (iblk m c 1 t) (iblk m c 3 t) (iblk m c 4 t) (iblk m c 5 t) s.2.2.2.1) (stepV (iblk m c 0 t) (iblk m c 1 t) (iblk m c 3 t) (iblk m c 4 t) s.2.2.2.2)
      (iblk m c 6 t) (iblk m c 7 t) (iblk m c 8 t) (iblk m c 9 t)) := by
  have e0 := read_row (F := F) (Memref.whole cc0_scratch0) (Memref.isWhole_whole _) s.2.1
  have e1 := read_row (F := F) (Memref.whole cc0_scratch1) (Memref.isWhole_whole _) s.2.2.1
  have e2 := read_row (F := F) (Memref.whole cc0_scratch2) (Memref.isWhole_whole _) s.2.2.2.1
  have e3 := read_rows (F := F) (Memref.whole cc0_scratch3) (Memref.isWhole_whole _) s.2.2.2.2
  rw [outsAt0_C m c t h0 h1, hs]
  dsimp only
  unfold out0_C_10
  refine (View.read_writes_eq_canon _ _ _ fun y => cover0_C_10 ..).trans ?_
  unfold kernelRun0_C
  dsimp only
  sl_unfold_words
  simp only [View.readCov_unit_zero (S := S1x128) _ off2, View.readCov_unit_zero (S := S2x128) _ off2, View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread, View.ld_unit_zero (S := S1x128) off2, View.ld_unit_zero (S := S2x128) off2,
    View.ld_unit_zero (S := S256x1) off2, View.ld_unit_zero (S := S256x64) off2, View.ld_unit_zero (S := S256x1x1) off3, View.ld_unit_zero (S := S256x32x128) off3, View.ld_unit_zero (S := S1x32x128) off3]
  exact congrArg View.canon (outPieces_congr _ _ _ _ (congrArg (stepN _) e0) (congrArg (stepA _ _) e1) (congrArg (stepE _ _ _ _) e2) (congrArg (stepV _ _ _ _) e3))

end Cert.Hist
-- ==== Proof.Spec.lean ====
/- What the four histograms are: how much one molecule adds to each bin, as extended reals. -/
module

public import proofs.«01_k».proof.Proof.Count
public import Idealize.ShloMosaic.Lib.SortNet.Extract

@[expose] public section

noncomputable section

namespace Cert.Hist

open Idealize.ShloMosaic

/-! ## Words -/

/-- A choice by a bit is a choice by the bit's being one. -/
theorem select_ite {α : Type} (c : BitVec 1) (a b : α) : Scalar.select c a b = if c = 1#1 then a else b := rfl

/-- The bit of a signed comparison. -/
theorem slt_one (a b : BitVec 32) : IntOp.cmpi CmpIPredicate.slt a b = 1#1 ↔ a.toInt < b.toInt := by
  show BitVec.ofBool (decide _) = 1#1 ↔ _
  by_cases h : a.toInt < b.toInt <;> simp [h]

/-- The bit of an equality. -/
theorem eq_one (a b : BitVec 32) : IntOp.cmpi CmpIPredicate.eq a b = 1#1 ↔ a = b := by
  show BitVec.ofBool (a == b) = 1#1 ↔ _
  by_cases h : a = b
  · simp [h]
  · rw [show (a == b) = false from beq_false_of_ne h]
    simp [h]

/-- The bit of a conjunction. -/
theorem and_one (a b : BitVec 1) : IntOp.andi a b = 1#1 ↔ a = 1#1 ∧ b = 1#1 := by
  unfold IntOp.andi
  revert a b
  decide

/-- A small number's word, read signed, is the number. -/
theorem toInt_small {n : Nat} (h : n < 2 ^ 31) : (BitVec.ofNat 32 n).toInt = (n : Int) := StableHlo.Predicate.toInt_ofNat_small n h

/-- A word is a small number's word when it reads as the number. -/
theorem eq_ofNat_iff (x : BitVec 32) {n : Nat} (h : n < 2 ^ 31) : x = BitVec.ofNat 32 n ↔ x.toInt = (n : Int) := by
  rw [← toInt_small h, BitVec.toInt_inj]

/-- Different small numbers have different words. -/
theorem ne_word {d m : Nat} (hd : d < 2 ^ 31) (hm : m < d) : BitVec.ofNat 32 d ≠ BitVec.ofNat 32 m := by
  intro h
  have := congrArg BitVec.toNat h
  simp only [BitVec.toNat_ofNat] at this
  omega

/-! ## One molecule's share of each bin -/

/-- Position `p` holds an atom of a molecule whose size word is `n`. -/
def live (n : BitVec 32) (p : Nat) : Prop := (p : Int) < n.toInt

/-- Whether a place is taken is decided by comparing two integers. -/
instance (n : BitVec 32) (p : Nat) : Decidable (live n p) := inferInstanceAs (Decidable ((p : Int) < n.toInt))

/-- The size word, brought into `0 … 64`. -/
def sizeW (n : BitVec 32) : BitVec 32 := IntOp.minsi 64#32 (IntOp.maxsi 0#32 n)

/-- What a bond of type `x` adds to a valency: one and a half for type 4, the type's number otherwise. -/
def bond (x : BitVec 32) : EReal := if x = 4#32 then Ideal.ofBits FTy.f32 0x3FC00000#32 else FloatOps.sitofp (F := Ideal) FTy.f32 x

/-- The bin of a valency: rounded down and brought into `0 … 189`. -/
def valW (s : EReal) : BitVec 32 := IntOp.minsi 189#32 (IntOp.maxsi 0#32 (FloatOps.fptosi (F := Ideal) (φ := FTy.f32) 32 (Ideal.liftRound Int.floor s)))

/-- The bonds of one atom with the atoms of its molecule, added up. -/
def bondSum (n : BitVec 32) (t : Fin 64 → BitVec 32) : EReal := ∑ i : Fin 64, if live n i.val then bond (t i) else 0

/-- A molecule's share of the bin `l` of the sizes. -/
def molN (n : BitVec 32) (l : Nat) : EReal := ind (sizeW n = BitVec.ofNat 32 l)

/-- A molecule's share of the bin `l` of the atom types. -/
def molA (n : BitVec 32) (a : Fin 64 → BitVec 32) (l : Nat) : EReal := ∑ p : Fin 64, ind (live n p.val ∧ a p = BitVec.ofNat 32 l)

/-- A molecule's share of the bin `l` of the edge types: each pair of its atoms once. -/
def molE (n : BitVec 32) (t : Fin 64 → Fin 64 → BitVec 32) (l : Nat) : EReal :=
  ∑ i : Fin 64, ∑ j : Fin 64, ind ((i.val < j.val ∧ live n j.val) ∧ t i j = BitVec.ofNat 32 l)

/-- A molecule's share of the bin `l` of the valencies. -/
def molV (n : BitVec 32) (t : Fin 64 → Fin 64 → BitVec 32) (l : Nat) : EReal :=
  ∑ j : Fin 64, ind (live n j.val ∧ valW (bondSum n fun i => t i j) = BitVec.ofNat 32 l)

/-! ## Two rows of 64 laid out as one of 128 -/

/-- A sum over `2 n` numbers is one over the even and one over the odd ones. -/
theorem sum_even_odd {M : Type} [AddCommMonoid M] (n : Nat) (h : Nat → M) :
    ∑ i ∈ Finset.range (2 * n), h i = ∑ p ∈ Finset.range n, h (2 * p) + ∑ p ∈ Finset.range n, h (2 * p + 1) := by
  induction n with
  | zero => simp
  | succ n ih =>
    rw [show 2 * (n + 1) = 2 * n + 1 + 1 from by omega, Finset.sum_range_succ, Finset.sum_range_succ, ih, Finset.sum_range_succ, Finset.sum_range_succ]
    rw [add_assoc, add_assoc, add_assoc, add_left_comm (h (2 * n))]

/-- A sum over 64 rows is one over the 32 even and one over the 32 odd ones. -/
theorem sum_rows {M : Type} [AddCommMonoid M] (h : Fin 64 → M) :
    ∑ i, h i = ∑ p : Fin 32, h ⟨2 * p.val, by omega⟩ + ∑ p : Fin 32, h ⟨2 * p.val + 1, by omega⟩ := by
  have e := sum_even_odd 32 (fun i => if q : i < 64 then h ⟨i, q⟩ else 0)
  rw [Finset.sum_range, Finset.sum_range, Finset.sum_range] at e
  refine Eq.trans (Finset.sum_congr rfl fun i _ => ?_) (e.trans (congrArg₂ (· + ·) (Finset.sum_congr rfl fun p _ => ?_) (Finset.sum_congr rfl fun p _ => ?_)))
  · rw [dif_pos i.isLt]
  · exact dif_pos (by omega)
  · exact dif_pos (by omega)

/-- A sum over 128 lanes is one over the first and one over the last 64. -/
theorem sum_lanes {M : Type} [AddCommMonoid M] (g : Fin 128 → M) :
    ∑ q, g q = ∑ j : Fin 64, g ⟨j.val, by omega⟩ + ∑ j : Fin 64, g ⟨64 + j.val, by omega⟩ :=
  Fin.sum_univ_add (a := 64) (b := 64) g

/-- A sum over 64 rows of 64 is one over 32 rows of 128, two rows laid out in each. -/
theorem sum_table {M : Type} [AddCommMonoid M] (f : Fin 64 → Fin 64 → M) (g : Fin 32 → Fin 128 → M)
    (h : ∀ (p : Fin 32) (q : Fin 128), g p q = f ⟨2 * p.val + q.val / 64, by omega⟩ ⟨q.val % 64, by omega⟩) :
    ∑ p, ∑ q, g p q = ∑ i, ∑ j, f i j := by
  rw [sum_rows]
  simp only [sum_lanes, Finset.sum_add_distrib, h]
  refine congrArg₂ (· + ·) ?_ ?_ <;>
  · refine Finset.sum_congr rfl fun p _ => Finset.sum_congr rfl fun j _ => ?_
    congr 1 <;> apply Fin.ext <;> simp <;> omega

end Cert.Hist
-- ==== Proof.StepRead.lean ====
/- One grid point's additions to the histograms, read entry by entry over the extended reals. -/
module

public import proofs.«01_k».proof.Proof.Step
public import proofs.«01_k».proof.Proof.Spec

@[expose] public section

noncomputable section

namespace Cert.Hist

open Idealize.ShloMosaic Cert.KernelIdeal Cert.KernelIdeal.Gen

/-- The widened bit of an equality of words, converted, is one or zero. -/
theorem sitofp_eq (a b : BitVec 32) :
    (FloatOps.sitofp (F := Ideal) FTy.f32 (BitVec.setWidth 32 (IntOp.cmpi CmpIPredicate.eq a b)) : EReal) = ind (a = b) := by
  show (((BitVec.setWidth 32 (IntOp.cmpi CmpIPredicate.eq a b)).toInt : ℝ) : EReal) = _
  unfold ind IntOp.cmpi
  by_cases h : a = b
  · simp [h]
  · rw [if_neg h, show (a == b) = false from beq_false_of_ne h]
    simp

/-- One where the lane is `c`, else zero. -/
theorem hit_apply {S : Shape} (lane : IVec S 32) (c : BitVec 32) (i : S.Idx) : hit (F := Ideal) lane c i = ind (lane i = c) :=
  sitofp_eq _ _

/-- The count of a block of rows, as a sum of ones. -/
theorem total2_apply (w : IVec S256x64 32) (c : BitVec 32) : total2 (F := Ideal) w c = ∑ r : Fin 256, ∑ p : Fin 64, ind (w (ix2 r p) = c) := by
  unfold total2
  pointwise
  exact Finset.sum_congr rfl fun r _ => Finset.sum_congr rfl fun p _ => sitofp_eq _ _

/-- A sum of all entries to a vector of one. -/
theorem reduceAdd_all {s : Shape} {axes : List (Fin s.rank)} (h : s.Reduces axes S1) (x : s.Idx → EReal) (j : S1.Idx) : Ideal.reduceAdd h x j = ∑ i, x i := by
  unfold Ideal.reduceAdd
  refine Finset.sum_congr (Finset.filter_true_of_mem fun i _ => ?_) fun _ _ => rfl
  funext a
  match a with
  | ⟨0, _⟩ => exact Subsingleton.elim (α := Fin 1) _ _

/-- A reshape does not change the sum of all entries. -/
theorem sum_reshape {s t : Shape} (x : s.Idx → EReal) (h : s.ShapeCasts t) : ∑ i, shapeCast t x h i = ∑ i, x i :=
  Equiv.sum_comp (Shape.reshapeEquiv _) x

/-- The count of a block of tables, as a sum of ones. -/
theorem total3_apply (w : IVec S256x32x128 32) (c : BitVec 32) : total3 (F := Ideal) w c = ∑ r : Fin 256, ∑ p : Fin 32, ∑ q : Fin 128, ind (w (ix3 r p q) = c) := by
  unfold total3
  pointwise
  rw [reduceAdd_all, sum_reshape, sum_idx3]
  exact Finset.sum_congr rfl fun r _ => Finset.sum_congr rfl fun p _ => Finset.sum_congr rfl fun q _ => sitofp_eq _ _

/-- The pairwise sum of the selected counts: at a lane numbered below `n` the count of that number, elsewhere zero. -/
theorem leaves_apply {S : Shape} (lane : IVec S 32) (tot : BitVec 32 → EReal) (z : FVec Ideal S .f32) (k n : Nat) (h0 : 0 < n) (hn : n ≤ 2 ^ k) (hk : k < 32)
    (i : S.Idx) : leaves (F := Ideal) lane tot z k n i = if (lane i).toNat < n then tot (lane i) else 0 := by
  have hk' : 2 ^ k ≤ 2 ^ 31 := Nat.pow_le_pow_right (by omega) (by omega)
  unfold leaves
  refine (treeSum_apply (fun b => leaf lane tot (BitVec.ofNat 32 b)) z k n h0 hn i).trans ?_
  have e : ∀ b, b < n → (leaf (F := Ideal) lane tot (BitVec.ofNat 32 b) i : EReal) = if (lane i).toNat = b then tot (lane i) else 0 := by
    intro b hb
    show tot (BitVec.ofNat 32 b) * hit (F := Ideal) lane (BitVec.ofNat 32 b) i = _
    rw [hit_apply]
    unfold ind
    by_cases h : (lane i).toNat = b
    · have : lane i = BitVec.ofNat 32 b := by rw [← h]; simp
      rw [if_pos this, if_pos h, mul_one, this]
    · rw [if_neg (fun q => h (by rw [q, BitVec.toNat_ofNat]; omega)), if_neg h, mul_zero]
  rw [Finset.sum_congr rfl fun b hb => e b (Finset.mem_range.1 hb), Finset.sum_ite_eq]
  simp only [Finset.mem_range]

/-- The histogram of sizes after a point, at a lane. -/
theorem stepN_apply (x0 : Vec Ideal S256x1 .i32) (acc : FVec Ideal S1x128 .f32) (l : Fin 128) :
    stepN x0 acc (ix2 0 l) = (acc (ix2 0 l) + ∑ r : Fin 256, ind (IntOp.minsi 64#32 (IntOp.maxsi 0#32 (x0 (ix2 r 0))) = BitVec.ofNat 32 l.val) : EReal) := by
  unfold stepN
  pointwise [k0_pay27, k0_pay26, k0_pay20]
  refine congrArg _ (Finset.sum_congr rfl fun r _ => sitofp_eq _ _)

/-- The lane's number. -/
theorem laneW_apply (l : Fin 128) : laneW (ix2 0 l) = BitVec.ofNat 32 l.val := by
  unfold laneW
  pointwise

/-- The number of an entry of two rows of lanes. -/
theorem idx2_apply (a : Fin 2) (l : Fin 128) : k0_pay19 (ix2 a l) = BitVec.ofNat 32 (128 * a.val + l.val) := by
  pointwise [k0_pay19]
  apply BitVec.eq_of_toNat_eq
  simp only [IntOp.addi, IntOp.muli, BitVec.toNat_add, BitVec.toNat_mul, BitVec.toNat_ofNat]
  omega

/-- The atom type counted at a position, as a choice. -/
theorem wordA_apply (x0 : Vec Ideal S256x1 .i32) (x2 : Vec Ideal S256x64 .i32) (r : Fin 256) (p : Fin 64) :
    wordA (F := Ideal) x0 x2 (ix2 r p) = if live (x0 (ix2 r 0)) p.val then x2 (ix2 r p) else 31#32 := by
  unfold wordA
  pointwise [k0_pay28, k0_pay25, k0_pay20]
  rw [select_ite]
  simp only [slt_one, toInt_small (show p.val < 2 ^ 31 by omega), live]
  rfl

/-- The edge type counted at a place of the table, as a choice. -/
theorem wordE_apply (x1 : Vec Ideal S256x1x1 .i32) (x3 : Vec Ideal S256x32x128 .i32) (x4 x5 : Vec Ideal S1x32x128 .i32) (r : Fin 256) (p : Fin 32) (q : Fin 128) :
    wordE (F := Ideal) x1 x3 x4 x5 (ix3 r p q)
      = if (x4 (ix3 0 p q)).toInt < (x5 (ix3 0 p q)).toInt ∧ (x5 (ix3 0 p q)).toInt < (x1 (ix3 r 0 0)).toInt then x3 (ix3 r p q) else 7#32 := by
  unfold wordE
  pointwise [k0_pay52, k0_pay21, k0_pay22, k0_pay23, k0_pay24]
  rw [select_ite]
  simp only [slt_one, and_one]

/-- What a place of the table adds to a valency. -/
def share (n i x : BitVec 32) : EReal := if i.toInt < n.toInt then bond x else 0

/-- The valency counted at a position, as a choice. -/
theorem wordV_apply (x0 : Vec Ideal S256x1 .i32) (x1 : Vec Ideal S256x1x1 .i32) (x3 : Vec Ideal S256x32x128 .i32) (x4 : Vec Ideal S1x32x128 .i32) (r : Fin 256) (p : Fin 64) :
    wordV (F := Ideal) x0 x1 x3 x4 (ix2 r p)
      = if live (x0 (ix2 r 0)) p.val then
          valW (∑ k : Fin 32, share (x1 (ix3 r 0 0)) (x4 (ix3 0 k ⟨p.val, by omega⟩)) (x3 (ix3 r k ⟨p.val, by omega⟩))
            + ∑ k : Fin 32, share (x1 (ix3 r 0 0)) (x4 (ix3 0 k ⟨64 + p.val, by omega⟩)) (x3 (ix3 r k ⟨64 + p.val, by omega⟩)))
        else 200#32 := by
  unfold wordV
  pointwise [k0_pay57, k0_pay21, k0_pay22, k0_pay23, k0_pay25, k0_pay20, k0_pay51]
  simp only [select_ite, slt_one, eq_one, toInt_small (show p.val < 2 ^ 31 by omega)]
  rfl

/-! ## The additions, molecule by molecule -/

/-- A word that is not a small number, in the places that are not counted. -/
theorem ite_word {p : Prop} [Decidable p] (x d c : BitVec 32) (h : d ≠ c) : ind ((if p then x else d) = c) = ind (p ∧ x = c) := by
  refine ind_congr ?_
  by_cases q : p
  · simp [q]
  · simp [q, h]

/-- What the blocks that a point reads hold of its 256 molecules: sizes `n`, atom types `a`, edge types `t` two rows to a line, and the row and column numbers of a line's lanes. -/
structure Blocks (n : Fin 256 → BitVec 32) (a : Fin 256 → Fin 64 → BitVec 32) (t : Fin 256 → Fin 64 → Fin 64 → BitVec 32)
    (x0 : Vec Ideal S256x1 .i32) (x1 : Vec Ideal S256x1x1 .i32) (x2 : Vec Ideal S256x64 .i32) (x3 : Vec Ideal S256x32x128 .i32) (x4 x5 : Vec Ideal S1x32x128 .i32) : Prop where
  h0 : ∀ r, x0 (ix2 r 0) = n r
  h1 : ∀ r, x1 (ix3 r 0 0) = n r
  h2 : ∀ r p, x2 (ix2 r p) = a r p
  h3 : ∀ r (p : Fin 32) (q : Fin 128), x3 (ix3 r p q) = t r ⟨2 * p.val + q.val / 64, by omega⟩ ⟨q.val % 64, by omega⟩
  h4 : ∀ (p : Fin 32) (q : Fin 128), x4 (ix3 0 p q) = BitVec.ofNat 32 (2 * p.val + q.val / 64)
  h5 : ∀ (p : Fin 32) (q : Fin 128), x5 (ix3 0 p q) = BitVec.ofNat 32 (q.val % 64)

section
variable {n : Fin 256 → BitVec 32} {a : Fin 256 → Fin 64 → BitVec 32} {t : Fin 256 → Fin 64 → Fin 64 → BitVec 32}
    {x0 : Vec Ideal S256x1 .i32} {x1 : Vec Ideal S256x1x1 .i32} {x2 : Vec Ideal S256x64 .i32} {x3 : Vec Ideal S256x32x128 .i32} {x4 x5 : Vec Ideal S1x32x128 .i32}
    (B : Blocks n a t x0 x1 x2 x3 x4 x5)
include B

/-- The sizes: each molecule adds one to its bin. -/
theorem stepN_mol (acc : FVec Ideal S1x128 .f32) (l : Fin 128) :
    (stepN x0 acc (ix2 0 l) : EReal) = acc (ix2 0 l) + ∑ r : Fin 256, molN (n r) l.val := by
  rw [stepN_apply]
  simp only [B.h0]
  rfl

/-- The atom types. -/
theorem stepA_mol (acc : FVec Ideal S1x128 .f32) (l : Fin 128) :
    (stepA x0 x2 acc (ix2 0 l) : EReal) = acc (ix2 0 l) + if l.val < 16 then ∑ r : Fin 256, molA (n r) (a r) l.val else 0 := by
  unfold stepA
  rw [shapeCast_self]
  show (acc (ix2 0 l) + leaves laneW (total2 (wordA x0 x2)) acc 4 16 (ix2 0 l) : EReal) = _
  rw [leaves_apply laneW _ acc 4 16 (by omega) (by omega) (by omega), laneW_apply]
  have e : (BitVec.ofNat 32 l.val).toNat = l.val := by rw [BitVec.toNat_ofNat]; omega
  rw [e]
  refine congrArg _ ?_
  split
  · next hl =>
    rw [total2_apply]
    refine Finset.sum_congr rfl fun r _ => Finset.sum_congr rfl fun p _ => ?_
    rw [wordA_apply, ite_word _ _ _ (ne_word (d := 31) (by omega) (by omega)), B.h0, B.h2]
  · rfl

/-- The edge types. -/
theorem stepE_mol (acc : FVec Ideal S1x128 .f32) (l : Fin 128) :
    (stepE x1 x3 x4 x5 acc (ix2 0 l) : EReal) = acc (ix2 0 l) + if l.val < 5 then ∑ r : Fin 256, molE (n r) (t r) l.val else 0 := by
  unfold stepE
  rw [shapeCast_self]
  show (acc (ix2 0 l) + leaves laneW (total3 (wordE x1 x3 x4 x5)) acc 3 5 (ix2 0 l) : EReal) = _
  rw [leaves_apply laneW _ acc 3 5 (by omega) (by omega) (by omega), laneW_apply]
  have e : (BitVec.ofNat 32 l.val).toNat = l.val := by rw [BitVec.toNat_ofNat]; omega
  rw [e]
  refine congrArg _ ?_
  split
  · next hl =>
    rw [total3_apply]
    refine Finset.sum_congr rfl fun r _ => ?_
    unfold molE
    refine sum_table _ _ fun p q => ?_
    rw [wordE_apply, ite_word _ _ _ (ne_word (d := 7) (by omega) (by omega)), B.h1, B.h3, B.h4, B.h5, toInt_small (by omega), toInt_small (by omega)]
    refine ind_congr ?_
    simp only [live, Nat.cast_lt]
  · rfl

/-- The valencies. -/
theorem stepV_mol (acc : FVec Ideal S2x128 .f32) (b : Fin 2) (l : Fin 128) :
    (stepV x0 x1 x3 x4 acc (ix2 b l) : EReal) = acc (ix2 b l) + if 128 * b.val + l.val < 190 then ∑ r : Fin 256, molV (n r) (t r) (128 * b.val + l.val) else 0 := by
  unfold stepV
  rw [shapeCast_self]
  show (acc (ix2 b l) + leaves k0_pay19 (total2 (wordV x0 x1 x3 x4)) acc 8 190 (ix2 b l) : EReal) = _
  rw [leaves_apply k0_pay19 _ acc 8 190 (by omega) (by omega) (by omega), idx2_apply]
  have e : (BitVec.ofNat 32 (128 * b.val + l.val)).toNat = 128 * b.val + l.val := by rw [BitVec.toNat_ofNat]; omega
  rw [e]
  refine congrArg _ ?_
  split
  · next hl =>
    rw [total2_apply]
    refine Finset.sum_congr rfl fun r _ => Finset.sum_congr rfl fun p _ => ?_
    rw [wordV_apply, ite_word _ _ _ (ne_word (d := 200) (by omega) (by omega)), B.h0]
    have s : ∀ (k : Fin 32) (q : Fin 128), share (x1 (ix3 r 0 0)) (x4 (ix3 0 k q)) (x3 (ix3 r k q))
        = if live (n r) (2 * k.val + q.val / 64) then bond (t r ⟨2 * k.val + q.val / 64, by omega⟩ ⟨q.val % 64, by omega⟩) else 0 := by
      intro k q
      unfold share live
      rw [B.h1, B.h3, B.h4, toInt_small (by omega)]
      rfl
    have u : (∑ k : Fin 32, share (x1 (ix3 r 0 0)) (x4 (ix3 0 k ⟨p.val, by omega⟩)) (x3 (ix3 r k ⟨p.val, by omega⟩))
            + ∑ k : Fin 32, share (x1 (ix3 r 0 0)) (x4 (ix3 0 k ⟨64 + p.val, by omega⟩)) (x3 (ix3 r k ⟨64 + p.val, by omega⟩)))
        = bondSum (n r) fun i => t r i p := by
      unfold bondSum
      rw [sum_rows]
      simp only [s]
      have a0 : p.val / 64 = 0 := by omega
      have a1 : p.val % 64 = p.val := by omega
      have b0 : (64 + p.val) / 64 = 1 := by omega
      have b1 : (64 + p.val) % 64 = p.val := by omega
      simp only [a0, a1, b0, b1, add_zero]
    rw [u]
  · rfl

end

end Cert.Hist
-- ==== Proof.Mean.lean ====
/- The mean absolute difference of two histograms, each divided by its own total, when both are padded with zeros: the padding changes nothing, whatever the totals are. -/
module

public import Idealize.ShloMosaic.Lib.Pointwise

@[expose] public section

noncomputable section

namespace Cert.Hist

open Idealize.ShloMosaic

/-- The absolute value of an extended real. -/
def eabs (x : EReal) : EReal := max x (-x)

/-- It is top as soon as the argument is one of the infinities. -/
theorem eabs_bot_or_top {x : EReal} (h : x = ⊥ ∨ x = ⊤) : eabs x = ⊤ := by
  rcases h with rfl | rfl <;> simp [eabs]

/-- Division by zero gives one of the infinities. -/
theorem div_zero_inf (x : EReal) : Ideal.div x 0 = ⊥ ∨ Ideal.div x 0 = ⊤ := by
  unfold Ideal.div
  rw [if_pos rfl]
  split
  · exact Or.inr rfl
  · exact Or.inl rfl

/-- A difference with an infinity on the left is an infinity. -/
theorem inf_sub {x : EReal} (y : EReal) (h : x = ⊥ ∨ x = ⊤) : x - y = ⊥ ∨ x - y = ⊤ := by
  rcases h with rfl | rfl
  · exact Or.inl (by rw [sub_eq_add_neg, EReal.bot_add])
  · induction y using EReal.rec with
    | bot => exact Or.inr rfl
    | coe r => exact Or.inr (by rw [sub_eq_add_neg, ← EReal.coe_neg, EReal.top_add_coe])
    | top => exact Or.inl rfl

/-- A difference with an infinity on the right is an infinity. -/
theorem sub_inf (x : EReal) {y : EReal} (h : y = ⊥ ∨ y = ⊤) : x - y = ⊥ ∨ x - y = ⊤ := by
  rcases h with rfl | rfl
  · induction x using EReal.rec with
    | bot => exact Or.inl rfl
    | coe r => exact Or.inr (by rw [sub_eq_add_neg, EReal.neg_bot, EReal.coe_add_top])
    | top => exact Or.inr rfl
  · exact Or.inl (by rw [sub_eq_add_neg, EReal.neg_top, EReal.add_bot])

/-- A sum over a nonempty finite type whose terms are all top is top. -/
theorem sum_top {ι : Type} [Fintype ι] [Nonempty ι] (f : ι → EReal) (h : ∀ i, f i = ⊤) : ∑ i, f i = ⊤ := by
  classical
  obtain ⟨i⟩ := ‹Nonempty ι›
  rw [← Finset.add_sum_erase _ _ (Finset.mem_univ i), h i]
  refine EReal.top_add_of_ne_bot ?_
  refine ne_of_gt (lt_of_lt_of_le EReal.bot_lt_zero (Finset.sum_nonneg fun j _ => ?_))
  rw [h j]; exact le_top

/-- A member of a family, divided by the family's total. -/
def normed {ι : Type} [Fintype ι] (g : ι → EReal) (i : ι) : EReal := Ideal.div (g i) (∑ k, g k)

/-- The sum of the absolute differences of two families, each divided by its own total. -/
def absDiff {ι : Type} [Fintype ι] (g t : ι → EReal) : EReal :=
  ∑ i, eabs (Ideal.div (g i) (∑ k, g k) - Ideal.div (t i) (∑ k, t k))

/-- Entries that are zero in both families may be left out of `absDiff`, as long as some entry is left. -/
theorem absDiff_padded {ι κ : Type} [Fintype ι] [Fintype κ] [Nonempty κ] (e : κ → ι) (he : Function.Injective e) (g t : ι → EReal)
    (hg : ∀ i, i ∉ Set.range e → g i = 0) (ht : ∀ i, i ∉ Set.range e → t i = 0) :
    absDiff g t = absDiff (fun k => g (e k)) (fun k => t (e k)) := by
  have eg : ∑ i, g i = ∑ k, g (e k) := (Fintype.sum_of_injective e he _ _ hg fun _ => rfl).symm
  have et : ∑ i, t i = ∑ k, t (e k) := (Fintype.sum_of_injective e he _ _ ht fun _ => rfl).symm
  haveI : Nonempty ι := ⟨e (Classical.arbitrary κ)⟩
  unfold absDiff
  rw [eg, et]
  by_cases zg : ∑ k, g (e k) = 0
  · rw [zg, sum_top _ fun i => eabs_bot_or_top (inf_sub _ (div_zero_inf _)), sum_top _ fun i => eabs_bot_or_top (inf_sub _ (div_zero_inf _))]
  by_cases zt : ∑ k, t (e k) = 0
  · rw [zt, sum_top _ fun i => eabs_bot_or_top (sub_inf _ (div_zero_inf _)), sum_top _ fun i => eabs_bot_or_top (sub_inf _ (div_zero_inf _))]
  refine (Fintype.sum_of_injective e he _ _ (fun i hi => ?_) fun _ => rfl).symm
  rw [hg i hi, ht i hi]
  unfold Ideal.div
  rw [if_neg zg, if_neg zt, zero_mul, zero_mul, sub_zero]
  simp [eabs]

end Cert.Hist
-- ==== Proof.OutRead.lean ====
/- The output block of the last grid point, read entry by entry over the extended reals. -/
module

public import proofs.«01_k».proof.Proof.Out
public import proofs.«01_k».proof.Proof.StepRead
public import proofs.«01_k».proof.Proof.Mean
public import Idealize.ShloMosaic.Lib.Pipeline.ValueKit.Tiles

@[expose] public section

noncomputable section

namespace Cert.Hist

open Idealize.ShloMosaic Idealize.ShloMosaic.Tactic Cert.KernelIdeal Cert.KernelIdeal.Gen

/-- The entries of a row of lanes. -/
def lanes (v : FVec Ideal S1x128 .f32) : Fin 128 → EReal := fun k => v (ix2 0 k)

/-- The entries of two rows of lanes. -/
def lanes2 (v : FVec Ideal S2x128 .f32) : Fin 2 × Fin 128 → EReal := fun p => v (ix2 p.1 p.2)

/-- A row divided by its sum, lane by lane. -/
theorem pay4_apply (v : FVec Ideal S1x128 .f32) (l : Fin 128) : (k0_pay4 v v (ix2 0 l) : Ideal FTy.f32) = normed (lanes v) l := by
  pointwise [k0_pay4]
  rw [Fin.sum_univ_one]
  rfl

/-- Two rows divided by their joint sum, lane by lane. -/
theorem pay7_apply (v : FVec Ideal S2x128 .f32) (a : Fin 2) (l : Fin 128) : (k0_pay7 v v (ix2 a l) : Ideal FTy.f32) = normed (lanes2 v) (a, l) := by
  pointwise [k0_pay7]
  unfold normed
  rw [Fintype.sum_prod_type]
  rfl

/-- The four errors, side by side in the first four lanes. -/
theorem errorRow_apply (nh ah eh : FVec Ideal S1x128 .f32) (vh : FVec Ideal S2x128 .f32) (tn ta te : FVec Ideal S1x128 .f32) (tv : FVec Ideal S2x128 .f32) (l : Fin 128) :
    (errorRow nh ah eh vh tn ta te tv (ix2 0 l) : EReal) =
      Ideal.div (absDiff (lanes nh) (lanes tn)) (FloatOps.ofBits (F := Ideal) .f32 0x42820000#32) * ind (BitVec.ofNat 32 l.val = 0#32) + Ideal.div (absDiff (lanes ah) (lanes ta)) (FloatOps.ofBits (F := Ideal) .f32 0x41800000#32) * ind (BitVec.ofNat 32 l.val = 1#32)
      + Ideal.div (absDiff (lanes eh) (lanes te)) (FloatOps.ofBits (F := Ideal) .f32 0x40A00000#32) * ind (BitVec.ofNat 32 l.val = 2#32)
      + Ideal.div (absDiff (lanes2 vh) (lanes2 tv)) (FloatOps.ofBits (F := Ideal) .f32 0x433E0000#32) * ind (BitVec.ofNat 32 l.val = 3#32) := by
  unfold errorRow laneW
  pointwise [k0_pay14, k0_pay13, k0_pay4, k0_pay5, k0_pay6, k0_pay7, k0_pay8, k0_pay9, k0_pay10, k0_pay11, k0_pay12]
  unfold absDiff
  simp only [Fintype.sum_prod_type, Fin.sum_univ_one, sitofp_eq]
  rfl

variable (nh ah eh : FVec Ideal S1x128 .f32) (vh : FVec Ideal S2x128 .f32) (tn ta te : FVec Ideal S1x128 .f32) (tv : FVec Ideal S2x128 .f32)

/-- The stores cover the output block. -/
theorem outPieces_cover (y : S8x128.Idx) : ∃ q ∈ outPieces nh ah eh vh tn ta te tv, y ∈ q.1.set :=
  View.cover_of_tiledBy (outPieces nh ah eh vh tn ta te tv) ![1, 128] (by sl_kernel_rfl) y

/-- An index of a block of rows of 128 lanes, by its row and its lane. -/
theorem idx_lane {n : Nat} (x : (⟨2, ![n, 128]⟩ : Shape).Idx) (a : Fin n) (l : Fin 128) (h0 : (x 0).val = a.val) (h1 : l.val = (x 1).val) : x = ix2 a l := by
  funext b
  match b with
  | ⟨0, _⟩ => exact Fin.ext h0
  | ⟨1, _⟩ => exact Fin.ext h1.symm

/-- The output block at row `r` and lane `l` is `v`, as soon as the store that holds this entry has `v` there. -/
theorem out_entry (r : Fin 8) (l : Fin 128) (v : Ideal FTy.f32) (h0 : r.val = 0 → k0_pay4 nh nh (ix2 0 l) = v) (h1 : r.val = 1 → k0_pay4 ah ah (ix2 0 l) = v)
    (h2 : r.val = 2 → k0_pay4 eh eh (ix2 0 l) = v) (h3 : ∀ a : Fin 2, r.val = 3 + a.val → k0_pay7 vh vh (ix2 a l) = v) (h5 : r.val = 5 → errorRow nh ah eh vh tn ta te tv (ix2 0 l) = v)
    (h6 : r.val < 6) : View.canon (outPieces nh ah eh vh tn ta te tv) (ix2 r l) = v := by
  have hr : ((ix2 r l : S8x128.Idx) 0).val = r.val := rfl
  have hl : ((ix2 r l : S8x128.Idx) 1).val = l.val := rfl
  refine View.canon_eq_of_allAt _ _ v (outPieces_cover nh ah eh vh tn ta te tv _) ?_
  unfold outPieces
  refine View.allAt_cons_unit _ _ _ _ _ (fun x h => ?_) (View.allAt_cons_unit _ _ _ _ _ (fun x h => ?_) (View.allAt_cons_unit _ _ _ _ _ (fun x h => ?_)
    (View.allAt_cons_unit _ _ _ _ _ (fun x h => ?_) (View.allAt_cons_unit _ _ _ _ _ (fun x h => ?_) (View.allAt_cons_unit _ _ _ _ _ (fun x h => ?_) (View.allAt_nil _ _))))))
  all_goals have g0 := h 0
  all_goals have g1 := (h 1).trans (Nat.zero_add _)
  all_goals rw [hr] at g0
  all_goals rw [hl] at g1
  · have : r.val = 6 + (x 0).val := g0
    omega
  · have a : (x 0).val < 1 := (x 0).isLt
    have : r.val = 5 + (x 0).val := g0
    rw [idx_lane x 0 l (by show (x 0).val = 0; omega) g1]
    exact h5 (by omega)
  · rw [idx_lane x (x 0) l rfl g1]
    exact h3 _ g0
  · have a : (x 0).val < 1 := (x 0).isLt
    have : r.val = 2 + (x 0).val := g0
    rw [idx_lane x 0 l (by show (x 0).val = 0; omega) g1]
    exact h2 (by omega)
  · have a : (x 0).val < 1 := (x 0).isLt
    have : r.val = 1 + (x 0).val := g0
    rw [idx_lane x 0 l (by show (x 0).val = 0; omega) g1]
    exact h1 (by omega)
  · have a : (x 0).val < 1 := (x 0).isLt
    have : r.val = 0 + (x 0).val := g0
    rw [idx_lane x 0 l (by show (x 0).val = 0; omega) g1]
    exact h0 (by omega)

end Cert.Hist
-- ==== Proof.Scatter.lean ====
/- A slice written at the front of an array, read entry by entry. -/
module

public import Idealize.ShloMosaic.Lib.Routing.OpsSet
public import Idealize.ShloMosaic.Lib.Routing.OpsPair
public import Mathlib.Data.EReal.Basic

@[expose] public section

namespace Cert.Hist

open Idealize.ShloMosaic Idealize.ShloMosaic.ValueIdx Idealize.ShloMosaic.Routing

/-- A slice written into row 0 of an array of one row, from column 0 on, holds the slice's entries there and the array's own beyond them. -/
theorem scatter_row {N C : Nat} (d : ScatterDims (shape2 1 C) (shape1 2) (shape1 N)) (hiw : d.insertedWindowDims = [0]) (x0 : (shape2 1 C).Idx → EReal)
    (idx : IVec (shape1 2) 32) (hidx : ∀ k, idx k = 0#32) (upd : (shape1 N).Idx → EReal) (q : Fin C) :
    Host.scatter d (fun _ b => b) x0 idx upd (ix2 0 q) = if h : q.val < N then upd (ix1 ⟨q.val, h⟩) else x0 (ix2 0 q) := by
  have hkept : d.sKept = [1] := by
    show (shape2 1 C).kept d.insertedWindowDims = _
    rw [hiw]
    rfl
  have hstart : ∀ k a, d.start k idx a = 0 := fun k a => by
    unfold ScatterDims.start
    split
    · rw [hidx]; rfl
    · rfl
  have hwin0 : ∀ k, d.window k 0 = 0 := fun k => by
    unfold ScatterDims.window
    rw [dif_neg (by rw [hkept]; exact (by decide : (0 : Fin 2) ∉ [(1 : Fin 2)]))]
  have hwin1 : ∀ i : Fin N, d.window (ix1 i) 1 = i.val := fun i => by
    unfold ScatterDims.window
    rw [dif_pos (by rw [hkept]; exact List.mem_singleton.2 rfl)]
    have e : ∀ X : Fin 1, (ix1 i X).val = i.val := fun X => by
      obtain rfl : X = 0 := Subsingleton.elim _ _
      rfl
    exact e _
  have lands : ∀ i : Fin N, d.resultIdx? (ix1 i) idx = some (ix2 0 q) ↔ i.val = q.val := fun i => by
    rw [resultIdx?_ix2, hstart, hstart, hwin0, hwin1]
    simp only [Fin.val_zero, Nat.cast_zero, add_zero, true_and, zero_add, Nat.cast_inj]
  by_cases h : q.val < N
  · rw [dif_pos h]
    refine scatter_set_hit d x0 idx upd _ _ (fun k hk => ?_) (ix1 ⟨q.val, h⟩) ((lands _).2 rfl)
    obtain ⟨i, rfl⟩ : ∃ i : Fin N, k = ix1 i := ⟨k 0, eq_ix1 k⟩
    exact congrArg (fun j => upd (ix1 j)) (Fin.ext ((lands i).1 hk))
  · rw [dif_neg h]
    refine scatter_set_miss d x0 idx upd _ fun k hk => h ?_
    obtain ⟨i, rfl⟩ : ∃ i : Fin N, k = ix1 i := ⟨k 0, eq_ix1 k⟩
    exact (lands i).1 hk ▸ i.isLt

/-- The same for a slice written into a vector from entry 0 on. -/
theorem scatter_front {N C : Nat} (d : ScatterDims (shape1 C) (shape1 1) (shape1 N)) (hiw : d.insertedWindowDims = []) (x0 : (shape1 C).Idx → EReal)
    (idx : IVec (shape1 1) 32) (hidx : ∀ k, idx k = 0#32) (upd : (shape1 N).Idx → EReal) (q : Fin C) :
    Host.scatter d (fun _ b => b) x0 idx upd (ix1 q) = if h : q.val < N then upd (ix1 ⟨q.val, h⟩) else x0 (ix1 q) := by
  have hkept : d.sKept = [0] := by
    show (shape1 C).kept d.insertedWindowDims = _
    rw [hiw]
    rfl
  have hstart : ∀ k a, d.start k idx a = 0 := fun k a => by
    unfold ScatterDims.start
    split
    · rw [hidx]; rfl
    · rfl
  have hwin : ∀ i : Fin N, d.window (ix1 i) 0 = i.val := fun i => by
    unfold ScatterDims.window
    rw [dif_pos (by rw [hkept]; exact List.mem_singleton.2 rfl)]
    have e : ∀ X : Fin 1, (ix1 i X).val = i.val := fun X => by
      obtain rfl : X = 0 := Subsingleton.elim _ _
      rfl
    exact e _
  have lands : ∀ i : Fin N, d.resultIdx? (ix1 i) idx = some (ix1 q) ↔ i.val = q.val := fun i => by
    rw [resultIdx?_ix1, hstart, hwin]
    simp only [zero_add, Nat.cast_inj]
  by_cases h : q.val < N
  · rw [dif_pos h]
    refine scatter_set_hit d x0 idx upd _ _ (fun k hk => ?_) (ix1 ⟨q.val, h⟩) ((lands _).2 rfl)
    obtain ⟨i, rfl⟩ : ∃ i : Fin N, k = ix1 i := ⟨k 0, eq_ix1 k⟩
    exact congrArg (fun j => upd (ix1 j)) (Fin.ext ((lands i).1 hk))
  · rw [dif_neg h]
    refine scatter_set_miss d x0 idx upd _ fun k hk => h ?_
    obtain ⟨i, rfl⟩ : ∃ i : Fin N, k = ix1 i := ⟨k 0, eq_ix1 k⟩
    exact (lands i).1 hk ▸ i.isLt

end Cert.Hist
-- ==== Proof.HostRead.lean ====
/- What the host operations before the launch leave in the staged arrays, entry by entry. -/
module

public import proofs.«01_k».proof.Proof.OutRead
public import proofs.«01_k».proof.Proof.Pieces
public import proofs.«01_k».proof.Proof.Scatter
public import Idealize.ShloMosaic.Lib.StableHlo.ReadAt

@[expose] public section

noncomputable section

namespace Cert.Hist

open Idealize.ShloMosaic Idealize.ShloMosaic.Tactic Cert.KernelIdeal Cert.KernelIdeal.Gen

/-- Two zero words put one after the other. -/
theorem pair_zero (a b : IVec S1 32) (ha : ∀ k, a k = 0#32) (hb : ∀ k, b k = 0#32) (k : S2.Idx) :
    concatenate S2 0 [⟨S1, a⟩, ⟨S1, b⟩] concatenates_S1_S1_S2_d0 k = 0#32 := by
  obtain ⟨i, rfl⟩ : ∃ i : Fin 2, k = ix1 i := ⟨k 0, eq_ix1 k⟩
  pointwise
  fin_cases i
  · exact ha _
  · exact hb _

/-- The quotient of a lane number by 64, rounded down. -/
theorem floor_word (q : Fin 128) (w s : BitVec 32) (hw : w = 64#32) (hs : s = if w = 0 then 0 else if BitVec.msb w = true then -1 else 1) :
    Scalar.select
        (IntOp.andi
          (IntOp.cmpi .ne (if BitVec.ofNat 32 q.val = 0 then 0 else if (BitVec.ofNat 32 q.val).msb = true then -1 else 1) s)
          (IntOp.cmpi .ne (IntOp.remsi .host (BitVec.ofNat 32 q.val) w) 0#32))
        (IntOp.subi (IntOp.divsi .host (BitVec.ofNat 32 q.val) w) 1#32)
        (IntOp.divsi .host (BitVec.ofNat 32 q.val) w) = BitVec.ofNat 32 (q.val / 64) := by
  subst hs hw
  revert q
  decide

/-- The remainder of a lane number by 64. -/
theorem rem_word (q : Fin 128) (w : BitVec 32) (hw : w = 64#32) :
    Scalar.select
        (IntOp.andi
          (IntOp.cmpi .ne (IntOp.cmpi .slt (IntOp.remsi .host (BitVec.ofNat 32 q.val) w) 0#32) (IntOp.cmpi .slt w 0#32))
          (IntOp.cmpi .ne (IntOp.remsi .host (BitVec.ofNat 32 q.val) w) 0#32))
        (IntOp.addi (IntOp.remsi .host (BitVec.ofNat 32 q.val) w) w)
        (IntOp.remsi .host (BitVec.ofNat 32 q.val) w) = BitVec.ofNat 32 (q.val % 64) := by
  subst hw
  revert q
  decide

/-- A row of zeros. -/
theorem zero_row (q : Fin 128) : (broadcastInDim S1x128 ![] bcast_S_S1x128 (constant S_ .f32 0x00000000#32) (ix2 0 q) : Ideal FTy.f32) = 0 := by
  pointwise

variable (m : (ℓ : Loc nD τ sig) → Buf (Elt Ideal) ℓ) (c : Dev nD)

/-- The sizes, in a column. -/
theorem read_v0 (b : Fin 8192) : V m c main_v0 (ix2 b 0) = (m ((c.tc : Thread nD τ).loc main_arg2) (ix1 b) : BitVec 32) := by
  unfold V
  after_reads_at

/-- The sizes, in a column of matrices. -/
theorem read_v1 (b : Fin 8192) : V m c main_v1 (ix3 b 0 0) = (m ((c.tc : Thread nD τ).loc main_arg2) (ix1 b) : BitVec 32) := by
  unfold V
  after_reads_at

/-- The tables of bonds, two rows of 64 to a row of 128. -/
theorem read_v2 (b : Fin 8192) (p : Fin 32) (q : Fin 128) : V m c main_v2 (ix3 b p q) = (m ((c.tc : Thread nD τ).loc main_arg1) (ix3 b ⟨2 * p.val + q.val / 64, by omega⟩ ⟨q.val % 64, by omega⟩) : BitVec 32) := by
  unfold V
  after_reads_at
  exact congrArg (fun i => (m ((c.tc : Thread nD τ).loc main_arg1) (ix3 b i ⟨q.val % 64, by omega⟩) : BitVec 32)) (Fin.ext (by show p.val * 2 + q.val / 64 = 2 * p.val + q.val / 64; omega))

/-- The table's row number at each place of a row of 128. -/
theorem read_v12 (p : Fin 32) (q : Fin 128) : V m c main_v12 (ix3 0 p q) = BitVec.ofNat 32 (2 * p.val + q.val / 64) := by
  unfold V
  after_reads_at
  refine (congrArg (fun w => 2#32 * BitVec.ofNat 32 p.val + w) (floor_word q _ _ rfl rfl)).trans ?_
  rw [← BitVec.ofNat_mul, ← BitVec.ofNat_add]

/-- The table's column number at each place of a row of 128. -/
theorem read_v14 (p : Fin 32) (q : Fin 128) : V m c main_v14 (ix3 0 p q) = BitVec.ofNat 32 (q.val % 64) := by
  unfold V
  after_reads_at
  exact rem_word q _ rfl

/-- The target of the sizes, followed by zeros. -/
theorem read_v19 (q : Fin 128) : V m c main_v19 (ix2 0 q) = if h : q.val < 65 then m ((c.tc : Thread nD τ).loc main_arg3) (ix1 ⟨q.val, h⟩) else (0 : EReal) := by
  unfold V
  after_reads_at
  refine (scatter_row scatter_S1x128_S2_S65_0_0_01_0 rfl _ _ (pair_zero _ _ (fun k => ?_) fun k => ?_) _ q).trans ?_
  · after_reads_at
  · after_reads_at
  · split_ifs
    exacts [rfl, zero_row q]

/-- The target of the atom types, followed by zeros. -/
theorem read_v24 (q : Fin 128) : V m c main_v24 (ix2 0 q) = if h : q.val < 16 then m ((c.tc : Thread nD τ).loc main_arg4) (ix1 ⟨q.val, h⟩) else (0 : EReal) := by
  unfold V
  after_reads_at
  refine (scatter_row scatter_S1x128_S2_S16_0_0_01_0 rfl _ _ (pair_zero _ _ (fun k => ?_) fun k => ?_) _ q).trans ?_
  · after_reads_at
  · after_reads_at
  · split_ifs
    exacts [rfl, zero_row q]

/-- The target of the bond types, followed by zeros. -/
theorem read_v29 (q : Fin 128) : V m c main_v29 (ix2 0 q) = if h : q.val < 5 then m ((c.tc : Thread nD τ).loc main_arg5) (ix1 ⟨q.val, h⟩) else (0 : EReal) := by
  unfold V
  after_reads_at
  refine (scatter_row scatter_S1x128_S2_S5_0_0_01_0 rfl _ _ (pair_zero _ _ (fun k => ?_) fun k => ?_) _ q).trans ?_
  · after_reads_at
  · after_reads_at
  · split_ifs
    exacts [rfl, zero_row q]

/-- The target of the valences, followed by zeros, in two rows of 128. -/
theorem read_v34 (r : Fin 2) (q : Fin 128) :
    V m c main_v34 (ix2 r q) = if h : 128 * r.val + q.val < 190 then m ((c.tc : Thread nD τ).loc main_arg6) (ix1 ⟨128 * r.val + q.val, h⟩) else (0 : EReal) := by
  unfold V
  after_reads_at
  refine (scatter_front scatter_S256_S1_S190_0_n_0_0 rfl _ _ (fun k => rfl) _ ⟨r.val * 128 + q.val, by omega⟩).trans ?_
  simp only [Nat.mul_comm r.val 128]
  rfl

end Cert.Hist
-- ==== Proof.Staged.lean ====
/- What the blocks of one grid point hold of the arguments. -/
module

public import proofs.«01_k».proof.Proof.HostRead
public import Idealize.ShloMosaic.Lib.Pipeline.ValueKit.Point

@[expose] public section

noncomputable section

namespace Cert.Hist

open Idealize.ShloMosaic Idealize.ShloMosaic.Tactic Cert.KernelIdeal Cert.KernelIdeal.Gen

/-- Every input window's block number at a point: the point's own for the molecules' arrays, the first for the others. -/
theorem win_idx : ∀ t : Fin cfg0.N, win0_0.index t = ![t.val, 0] ∧ win0_1.index t = ![t.val, 0, 0] ∧ win0_2.index t = ![t.val, 0]
    ∧ win0_3.index t = ![t.val, 0, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD)

/-- The size of molecule `b`, as launched. -/
def nK (b : Fin 8192) : BitVec 32 := m ((c.tc : Thread nD τ).loc main_arg2) (ix1 b)
/-- The atom types of molecule `b`, as launched. -/
def aK (b : Fin 8192) (p : Fin 64) : BitVec 32 := m ((c.tc : Thread nD τ).loc main_arg0) (ix2 b p)
/-- The edge types of molecule `b`, as launched. -/
def tK (b : Fin 8192) (i j : Fin 64) : BitVec 32 := m ((c.tc : Thread nD τ).loc main_arg1) (ix3 b i j)

/-- The molecule at place `r` of the 256 that point `t` reads. -/
def mol (t : Fin cfg0.N) (r : Fin 256) : Fin 8192 := ⟨256 * t.val + r.val, by have h : t.val < 32 := Nat.lt_of_lt_of_eq t.isLt N_0; omega⟩

/-- The sizes of the molecules of a point, as a column. -/
theorem blk0 (t : Fin cfg0.N) (r : Fin 256) : iblk m c 0 t (ix2 r 0) = nK m c (mol t r) := by
  refine Eq.trans ?_ (read_v0 m c (mol t r))
  unfold mol
  blk_ext [iblk, win_idx t]

/-- The sizes again, with one axis more. -/
theorem blk1 (t : Fin cfg0.N) (r : Fin 256) : iblk m c 1 t (ix3 r 0 0) = nK m c (mol t r) := by
  refine Eq.trans ?_ (read_v1 m c (mol t r))
  unfold mol
  blk_ext [iblk, win_idx t]

/-- The atom types of the molecules of a point. -/
theorem blk2 (t : Fin cfg0.N) (r : Fin 256) (p : Fin 64) : iblk m c 2 t (ix2 r p) = aK m c (mol t r) p := by
  refine Eq.trans ?_ (congrFun (V_main_arg0 m c) (ix2 (mol t r) p))
  unfold mol
  blk_ext [iblk, win_idx t]

/-- The edge types of the molecules of a point, two rows of 64 laid out as one of 128. -/
theorem blk3 (t : Fin cfg0.N) (r : Fin 256) (p : Fin 32) (q : Fin 128) :
    iblk m c 3 t (ix3 r p q) = tK m c (mol t r) ⟨2 * p.val + q.val / 64, by omega⟩ ⟨q.val % 64, by omega⟩ := by
  refine Eq.trans ?_ (read_v2 m c (mol t r) p q)
  unfold mol
  blk_ext [iblk, win_idx t]

/-- The row of the edge table that a place stands for. -/
theorem blk4 (t : Fin cfg0.N) (p : Fin 32) (q : Fin 128) : iblk m c 4 t (ix3 0 p q) = BitVec.ofNat 32 (2 * p.val + q.val / 64) := by
  refine Eq.trans ?_ (read_v12 m c p q)
  blk_ext [iblk, win_idx t]

/-- The column of the edge table that a place stands for. -/
theorem blk5 (t : Fin cfg0.N) (p : Fin 32) (q : Fin 128) : iblk m c 5 t (ix3 0 p q) = BitVec.ofNat 32 (q.val % 64) := by
  refine Eq.trans ?_ (read_v14 m c p q)
  blk_ext [iblk, win_idx t]

/-- The blocks of point `t` hold its 256 molecules. -/
theorem blocks (t : Fin cfg0.N) : Blocks (fun r => nK m c (mol t r)) (fun r => aK m c (mol t r)) (fun r => tK m c (mol t r))
    (iblk m c 0 t) (iblk m c 1 t) (iblk m c 2 t) (iblk m c 3 t) (iblk m c 4 t) (iblk m c 5 t) :=
  ⟨blk0 m c t, blk1 m c t, blk2 m c t, blk3 m c t, blk4 m c t, blk5 m c t⟩

/-- The target of the sizes, padded with zeros. -/
theorem blk6 (t : Fin cfg0.N) (q : Fin 128) :
    iblk m c 6 t (ix2 0 q) = if h : q.val < 65 then m ((c.tc : Thread nD τ).loc main_arg3) (ix1 ⟨q.val, h⟩) else (0 : EReal) := by
  refine Eq.trans ?_ (read_v19 m c q)
  blk_ext [iblk, win_idx t]

/-- The target of the atom types, padded with zeros. -/
theorem blk7 (t : Fin cfg0.N) (q : Fin 128) :
    iblk m c 7 t (ix2 0 q) = if h : q.val < 16 then m ((c.tc : Thread nD τ).loc main_arg4) (ix1 ⟨q.val, h⟩) else (0 : EReal) := by
  refine Eq.trans ?_ (read_v24 m c q)
  blk_ext [iblk, win_idx t]

/-- The target of the edge types, padded with zeros. -/
theorem blk8 (t : Fin cfg0.N) (q : Fin 128) :
    iblk m c 8 t (ix2 0 q) = if h : q.val < 5 then m ((c.tc : Thread nD τ).loc main_arg5) (ix1 ⟨q.val, h⟩) else (0 : EReal) := by
  refine Eq.trans ?_ (read_v29 m c q)
  blk_ext [iblk, win_idx t]

/-- The target of the valencies, over two rows, padded with zeros. -/
theorem blk9 (t : Fin cfg0.N) (r : Fin 2) (q : Fin 128) :
    iblk m c 9 t (ix2 r q) = if h : 128 * r.val + q.val < 190 then m ((c.tc : Thread nD τ).loc main_arg6) (ix1 ⟨128 * r.val + q.val, h⟩) else (0 : EReal) := by
  refine Eq.trans ?_ (read_v34 m c r q)
  blk_ext [iblk, win_idx t]

end Cert.Hist
-- ==== Proof.Total.lean ====
/- The four histograms after the points run so far, as sums over the molecules read so far. -/
module

public import proofs.«01_k».proof.Proof.Staged

@[expose] public section

noncomputable section

namespace Cert.Hist

open Idealize.ShloMosaic Idealize.ShloMosaic.Tactic Cert.KernelIdeal Cert.KernelIdeal.Gen

/-- The sum of `f` over the molecules that the first `k` points read. -/
def partial_ (f : Fin 8192 → EReal) (k : Nat) : EReal :=
  ∑ j ∈ Finset.range k, ∑ r : Fin 256, if h : 256 * j + r.val < 8192 then f ⟨256 * j + r.val, h⟩ else 0

/-- One point more adds its own 256 molecules. -/
theorem partial_succ (f : Fin 8192 → EReal) (t : Fin cfg0.N) : partial_ f (t.val + 1) = partial_ f t.val + ∑ r : Fin 256, f (mol t r) := by
  unfold partial_
  rw [Finset.sum_range_succ]
  refine congrArg _ (Finset.sum_congr rfl fun r _ => dif_pos (mol t r).isLt)

/-- After all 32 points the sum is over every molecule. -/
theorem partial_all (f : Fin 8192 → EReal) : partial_ f 32 = ∑ b, f b := by
  unfold partial_
  rw [Finset.sum_range]
  rw [← Fintype.sum_prod_type' (f := fun (j : Fin 32) (r : Fin 256) => if h : 256 * j.val + r.val < 8192 then f ⟨256 * j.val + r.val, h⟩ else 0)]
  refine Fintype.sum_equiv (finProdFinEquiv (m := 32) (n := 256)) _ _ fun p => ?_
  have h : 256 * p.1.val + p.2.val < 8192 := by omega
  rw [dif_pos h]
  exact congrArg f (Fin.ext (Nat.add_comm _ _))

/-- A conditional sum, the condition moved inside. -/
theorem ite_sum (P : Prop) [Decidable P] (g : Fin 256 → EReal) : (if P then ∑ r, g r else 0) = ∑ r, if P then g r else 0 := by
  split <;> simp

variable (m : (ℓ : Loc nD τ sig) → Buf (Elt Ideal) ℓ) (c : Dev nD)

/-- What molecule `b` adds to lane `l` of the sizes' histogram. -/
def shareN (l : Fin 128) (b : Fin 8192) : EReal := molN (nK m c b) l.val
/-- What it adds to lane `l` of the atom types' histogram. -/
def shareA (l : Fin 128) (b : Fin 8192) : EReal := if l.val < 16 then molA (nK m c b) (aK m c b) l.val else 0
/-- What it adds to lane `l` of the edge types' histogram. -/
def shareE (l : Fin 128) (b : Fin 8192) : EReal := if l.val < 5 then molE (nK m c b) (tK m c b) l.val else 0
/-- What it adds to lane `l` of row `r` of the valencies' histogram. -/
def shareV (r : Fin 2) (l : Fin 128) (b : Fin 8192) : EReal :=
  if 128 * r.val + l.val < 190 then molV (nK m c b) (tK m c b) (128 * r.val + l.val) else 0

/-- The four histograms hold the sums over the molecules of the first `k` points. -/
structure Held (s : Vec Ideal S1x128 .f32 × Vec Ideal S1x128 .f32 × Vec Ideal S1x128 .f32 × Vec Ideal S2x128 .f32) (k : Nat) : Prop where
  hN : ∀ l, s.1 (ix2 0 l) = partial_ (shareN m c l) k
  hA : ∀ l, s.2.1 (ix2 0 l) = partial_ (shareA m c l) k
  hE : ∀ l, s.2.2.1 (ix2 0 l) = partial_ (shareE m c l) k
  hV : ∀ r l, s.2.2.2 (ix2 r l) = partial_ (shareV m c r l) k

/-- The four histograms that a point leaves, from those before it. -/
def stepAll (t : Fin cfg0.N) (s : Vec Ideal S1x128 .f32 × Vec Ideal S1x128 .f32 × Vec Ideal S1x128 .f32 × Vec Ideal S2x128 .f32) :
    Vec Ideal S1x128 .f32 × Vec Ideal S1x128 .f32 × Vec Ideal S1x128 .f32 × Vec Ideal S2x128 .f32 :=
  (stepN (iblk m c 0 t) s.1, stepA (iblk m c 0 t) (iblk m c 2 t) s.2.1, stepE (iblk m c 1 t) (iblk m c 3 t) (iblk m c 4 t) (iblk m c 5 t) s.2.2.1,
    stepV (iblk m c 0 t) (iblk m c 1 t) (iblk m c 3 t) (iblk m c 4 t) s.2.2.2)

/-- A point keeps the invariant. -/
theorem held_step (t : Fin cfg0.N) (s) (h : Held m c s t.val) : Held m c (stepAll m c t s) (t.val + 1) where
  hN l := by
    refine (stepN_mol (blocks m c t) s.1 l).trans ?_
    rw [h.hN, partial_succ]
    rfl
  hA l := by
    refine (stepA_mol (blocks m c t) s.2.1 l).trans ?_
    rw [h.hA, partial_succ, ite_sum]
    rfl
  hE l := by
    refine (stepE_mol (blocks m c t) s.2.2.1 l).trans ?_
    rw [h.hE, partial_succ, ite_sum]
    rfl
  hV r l := by
    refine (stepV_mol (blocks m c t) s.2.2.2 r l).trans ?_
    rw [h.hV, partial_succ, ite_sum]
    rfl

/-- The zeros put in at the first point. -/
theorem held_zero : Held m c (k0_pay15 (F := Ideal), k0_pay16 (F := Ideal), k0_pay17 (F := Ideal), k0_pay18 (F := Ideal)) 0 where
  hN l := by show (k0_pay15 (ix2 0 l) : Ideal FTy.f32) = 0; pointwise [k0_pay15]
  hA l := by show (k0_pay16 (ix2 0 l) : Ideal FTy.f32) = 0; pointwise [k0_pay16]
  hE l := by show (k0_pay17 (ix2 0 l) : Ideal FTy.f32) = 0; pointwise [k0_pay17]
  hV r l := by show (k0_pay18 (ix2 r l) : Ideal FTy.f32) = 0; pointwise [k0_pay18]

/-- Before the last point, every point leaves the sums over the molecules read so far. -/
theorem held (n : Nat) (hn : n < cfg0.N) (h31 : n < 31) : Held m c (outsAt0 m c n hn).2 (n + 1) := by
  induction n with
  | zero =>
    rw [scratch_A m c ⟨0, hn⟩ rfl (fun h => absurd h (by show ¬0 % 32 = 31; decide))]
    exact held_step m c ⟨0, hn⟩ _ (held_zero m c)
  | succ k ih =>
    rw [scratch_B m c ⟨k + 1, hn⟩ (by show ¬(k + 1) % 32 = 0; omega) (by show ¬(k + 1) % 32 = 31; omega) _ rfl]
    exact held_step m c ⟨k + 1, hn⟩ _ (ih (by omega) (by omega))

/-- The last point. -/
def lastPt : Fin cfg0.N := ⟨31, Nat.lt_of_lt_of_eq (by decide) N_0.symm⟩

/-- The last point's output block is built from the sums over every molecule and from the targets. -/
theorem out_last : ∃ s, Held m c s 32 ∧ (outsAt0 m c lastPt.val lastPt.isLt).1 = View.canon (outPieces s.1 s.2.1 s.2.2.1 s.2.2.2
    (iblk m c 6 lastPt) (iblk m c 7 lastPt) (iblk m c 8 lastPt) (iblk m c 9 lastPt)) :=
  ⟨stepAll m c lastPt (outsAt0 m c 30 (Nat.lt_of_lt_of_eq (by decide) N_0.symm)).2, held_step m c lastPt _ (held m c 30 (Nat.lt_of_lt_of_eq (by decide) N_0.symm) (by decide)),
    out_C m c lastPt (by decide) (by decide) _ rfl⟩

end Cert.Hist
-- ==== Proof.Tail.lean ====
/- The array that the launch leaves, and the result cut out of it. -/
module

public import proofs.«01_k».proof.Proof.Total

@[expose] public section

noncomputable section

namespace Cert.Hist

open Idealize.ShloMosaic Idealize.ShloMosaic.Tactic Cert.KernelIdeal Cert.KernelIdeal.Gen

variable (m : (ℓ : Loc nD τ sig) → Buf (Elt Ideal) ℓ) (c : Dev nD)

/-- The array that the launch leaves is the block that the last point leaves. -/
theorem array_last : (dats m 0 c).arrAt 10 cfg0.N = (outsAt0 m c lastPt.val lastPt.isLt).1 := by
  refine (dats m 0 c).arrAt_eq_of_after_last 10 lastPt (by decide +kernel) _ fun j => ?_
  rw [after0_10]
  exact congrArg (outsAt0 m c lastPt.val lastPt.isLt).1 (funext fun a => Fin.ext rfl)

/-- The six pieces of the result, put one after the other. -/
def glue (a : FVec Ideal S65 .f32) (b : FVec Ideal S16 .f32) (d : FVec Ideal S5 .f32) (e : FVec Ideal S128 .f32) (f : FVec Ideal S62 .f32) (g : FVec Ideal S4 .f32) : FVec Ideal S280 .f32 :=
  concatenate S280 0 [⟨S65, a⟩, ⟨S16, b⟩, ⟨S5, d⟩, ⟨S128, e⟩, ⟨S62, f⟩, ⟨S4, g⟩] concatenates_S65_S16_S5_S128_S62_S4_S280_d0

/-- Equal pieces give equal results. -/
theorem glue_congr {a a' b b' d d' e e' f f' g g'} (ha : a = a') (hb : b = b') (hd : d = d') (he : e = e') (hf : f = f') (hg : g = g') :
    glue a b d e f g = glue a' b' d' e' f' g' := by
  subst ha hb hd he hf hg
  rfl

/-- The result, cut out of the array `X`. -/
def cut (X : FVec Ideal S8x128 .f32) : FVec Ideal S280 .f32 :=
  glue (shapeCast S65 (extractStridedSlice S1x65 ![0, 0] X slices_S8x128_S1x65_0_0) shapeCasts_S1x65_S65)
    (shapeCast S16 (extractStridedSlice S1x16 ![1, 0] X slices_S8x128_S1x16_1_0) shapeCasts_S1x16_S16)
    (shapeCast S5 (extractStridedSlice S1x5 ![2, 0] X slices_S8x128_S1x5_2_0) shapeCasts_S1x5_S5)
    (shapeCast S128 (extractStridedSlice S1x128 ![3, 0] X slices_S8x128_S1x128_3_0) shapeCasts_S1x128_S128)
    (shapeCast S62 (extractStridedSlice S1x62 ![4, 0] X slices_S8x128_S1x62_4_0) shapeCasts_S1x62_S62)
    (shapeCast S4 (extractStridedSlice S1x4 ![5, 0] X slices_S8x128_S1x4_5_0) shapeCasts_S1x4_S4)

/-- The host operations after the launch cut the result out of the array that the launch leaves. -/
theorem tail_line (U : Valuation τ sig (Elt Ideal)) :
    (StableHlo.after hostOps1 U (Proc.devRef .tc main_v48) : FVec Ideal S280 .f32) = cut (U (Proc.devRef .tc main_v35)) := by
  after_reads_simp
  refine glue_congr ?_ ?_ ?_ ?_ ?_ ?_
  · show StableHlo.upto hostOps1 U 12 (Proc.devRef .tc main_v37) = _
    after_reads_simp
    rfl
  · show StableHlo.upto hostOps1 U 12 (Proc.devRef .tc main_v39) = _
    after_reads_simp
    rfl
  · show StableHlo.upto hostOps1 U 12 (Proc.devRef .tc main_v41) = _
    after_reads_simp
    rfl
  · show StableHlo.upto hostOps1 U 12 (Proc.devRef .tc main_v43) = _
    after_reads_simp
    rfl
  · show StableHlo.upto hostOps1 U 12 (Proc.devRef .tc main_v45) = _
    after_reads_simp
    rfl
  · show StableHlo.upto hostOps1 U 12 (Proc.devRef .tc main_v47) = _
    after_reads_simp
    rfl

/-- The result buffer after the run, cut out of the launch's array. -/
theorem tail_value : (Pipeline.afterTail₀ cfgs (dats m) 0 (V0 m) [hostOps1] c main_v48 : FVec Ideal S280 .f32) = cut ((dats m 0 c).arrAt 10 cfg0.N) :=
  (tail_line _).trans (congrArg cut (Pipeline.withArrays_arr spec0 (by decide) c (V0 m c) (fun w => (dats m 0 c).arrAt w cfg0.N) 10))

/-- Each entry of the result lies in one row of the array: the sizes in row 0, the atom types in row 1, the edge types in row 2, the valencies in rows 3 and 4,
    the errors in row 5. -/
theorem cut_at (X : FVec Ideal S8x128 .f32) (i : Fin 280) (v : Ideal FTy.f32)
    (h0 : ∀ q : Fin 128, q.val < 65 → i.val = q.val → X (ix2 0 q) = v)
    (h1 : ∀ q : Fin 128, q.val < 16 → i.val = 65 + q.val → X (ix2 1 q) = v)
    (h2 : ∀ q : Fin 128, q.val < 5 → i.val = 81 + q.val → X (ix2 2 q) = v)
    (h3 : ∀ (a : Fin 2) (q : Fin 128), 128 * a.val + q.val < 190 → i.val = 86 + (128 * a.val + q.val) → X (ix2 ⟨3 + a.val, by omega⟩ q) = v)
    (h5 : ∀ q : Fin 128, q.val < 4 → i.val = 276 + q.val → X (ix2 5 q) = v) : cut X (ix1 i) = v := by
  have hi := i.isLt
  pointwise [cut, glue]
  by_cases g0 : i.val < 65
  · rw [dif_pos g0]
    exact h0 ⟨i.val, by omega⟩ g0 rfl
  rw [dif_neg g0]
  by_cases g1 : i.val - 65 < 16
  · rw [dif_pos g1]
    exact h1 ⟨i.val - 65, by omega⟩ g1 (by show i.val = 65 + (i.val - 65); omega)
  rw [dif_neg g1]
  by_cases g2 : i.val - 65 - 16 < 5
  · rw [dif_pos g2]
    exact h2 ⟨i.val - 65 - 16, by omega⟩ g2 (by show i.val = 81 + (i.val - 65 - 16); omega)
  rw [dif_neg g2]
  by_cases g3 : i.val - 65 - 16 - 5 < 128
  · rw [dif_pos g3]
    exact h3 0 ⟨i.val - 65 - 16 - 5, g3⟩ (by show 128 * 0 + (i.val - 65 - 16 - 5) < 190; omega) (by show i.val = 86 + (128 * 0 + (i.val - 65 - 16 - 5)); omega)
  rw [dif_neg g3]
  by_cases g4 : i.val - 65 - 16 - 5 - 128 < 62
  · rw [dif_pos g4]
    exact h3 1 ⟨i.val - 65 - 16 - 5 - 128, by omega⟩ (by show 128 * 1 + (i.val - 65 - 16 - 5 - 128) < 190; omega)
      (by show i.val = 86 + (128 * 1 + (i.val - 65 - 16 - 5 - 128)); omega)
  rw [dif_neg g4]
  exact h5 ⟨i.val - 65 - 16 - 5 - 128 - 62, by omega⟩ (by show i.val - 65 - 16 - 5 - 128 - 62 < 4; omega)
    (by show i.val = 276 + (i.val - 65 - 16 - 5 - 128 - 62); omega)

end Cert.Hist
-- ==== Proof.Padded.lean ====
/- A family padded with zeros, normalised and compared: the padding changes nothing. -/
module

public import proofs.«01_k».proof.Proof.Mean

@[expose] public section

noncomputable section

namespace Cert.Hist

open Idealize.ShloMosaic

/-- `F` is `f` carried along `e`, and zero elsewhere. -/
structure Pad {ι κ : Type} (e : κ → ι) (F : ι → EReal) (f : κ → EReal) : Prop where
  inj : Function.Injective e
  on : ∀ k, F (e k) = f k
  off : ∀ i, i ∉ Set.range e → F i = 0

section
variable {ι κ : Type} [Fintype ι] [Fintype κ] {e : κ → ι} {F T : ι → EReal} {f t : κ → EReal}

/-- Padding keeps a member divided by the total. -/
theorem Pad.normed (P : Pad e F f) (k : κ) : normed F (e k) = normed f k := by
  have h : ∑ i, F i = ∑ k, f k := (Fintype.sum_of_injective e P.inj f F P.off fun k => (P.on k).symm).symm
  unfold Cert.Hist.normed
  rw [P.on, h]

/-- Padding keeps the sum of the absolute differences. -/
theorem Pad.absDiff [Nonempty κ] (P : Pad e F f) (Q : Pad e T t) : absDiff F T = absDiff f t := by
  rw [absDiff_padded e P.inj F T P.off Q.off]
  exact congrArg₂ Cert.Hist.absDiff (funext P.on) (funext Q.on)

end

/-- A row of 128 whose first `n` lanes are `f` and whose other lanes are zero. -/
theorem pad_row {n : Nat} (hn : n ≤ 128) (F : Fin 128 → EReal) (f : Fin n → EReal) (h : ∀ q, F q = if g : q.val < n then f ⟨q.val, g⟩ else 0) :
    Pad (Fin.castLE hn) F f where
  inj := Fin.castLE_injective hn
  on k := (h _).trans (dif_pos k.isLt)
  off q hq := (h q).trans (dif_neg fun g => hq ⟨⟨q.val, g⟩, rfl⟩)

/-- The place of entry `l` in two rows of 128. -/
def fold2 (l : Fin 190) : Fin 2 × Fin 128 := (⟨l.val / 128, by omega⟩, ⟨l.val % 128, by omega⟩)

/-- Two rows of 128 that hold `f` and then zeros. -/
theorem pad_rows (F : Fin 2 × Fin 128 → EReal) (f : Fin 190 → EReal)
    (h : ∀ a q, F (a, q) = if g : 128 * a.val + q.val < 190 then f ⟨128 * a.val + q.val, g⟩ else 0) : Pad fold2 F f where
  inj k l e := by
    have e1 : k.val / 128 = l.val / 128 := congrArg (fun p : Fin 2 × Fin 128 => p.1.val) e
    have e2 : k.val % 128 = l.val % 128 := congrArg (fun p : Fin 2 × Fin 128 => p.2.val) e
    exact Fin.ext (by omega)
  on k := by
    have e : 128 * (k.val / 128) + k.val % 128 = k.val := Nat.div_add_mod _ _
    refine (h _ _).trans ((dif_pos (by show 128 * (k.val / 128) + k.val % 128 < 190; omega)).trans (congrArg f (Fin.ext e)))
  off p hp := by
    refine (h p.1 p.2).trans (dif_neg fun g => hp ⟨⟨128 * p.1.val + p.2.val, g⟩, ?_⟩)
    refine Prod.ext (Fin.ext ?_) (Fin.ext ?_)
    · show (128 * p.1.val + p.2.val) / 128 = p.1.val; omega
    · show (128 * p.1.val + p.2.val) % 128 = p.2.val; omega

end Cert.Hist
-- ==== Proof.RefCount.lean ====
/- The reference's counts: each scattered histogram, entry by entry, is a sum of the molecules' shares. -/
module

public import proofs.«01_k».proof.Proof.Gen.ReferenceIdeal.Run
public import proofs.«01_k».proof.Proof.Spec

@[expose] public section

noncomputable section

namespace Cert.Hist

open Idealize.ShloMosaic Cert.ReferenceIdeal Cert.ReferenceIdeal.Value

/-- A histogram of words that are not negative, converted: at an entry, the sum of ones over the words that name it. -/
theorem hist_words {N M : Nat} (d : ScatterDims (⟨1, ![N]⟩ : Shape) (⟨2, ![M, 1]⟩ : Shape) (⟨1, ![M]⟩ : Shape)) (hiw : d.insertedWindowDims = [0])
    (hsd : d.scatterDimsToOperandDims = [0]) (hivd : d.indexVectorDim = 1) (z : IVec (⟨1, ![N]⟩ : Shape) 32) (hz : ∀ i, z i = 0#32)
    (idx : IVec (⟨2, ![M, 1]⟩ : Shape) 32) (one : IVec (⟨1, ![M]⟩ : Shape) 32) (h1 : ∀ i, one i = 1#32) (w : IVec (⟨1, ![M]⟩ : Shape) 32)
    (hw : ∀ k, idx (ix2 k 0) = w (ix1 k)) (hM : M < 2 ^ 31) (x : Fin N) :
    (FloatOps.sitofp (F := Ideal) FTy.f32 (Host.scatter d IntOp.addi z idx one (ix1 x)) : EReal) = ∑ k : Fin M, ind ((w (ix1 k)).toInt = (x.val : Int)) := by
  have e := scatter_ones d hiw hsd hivd z hz idx one h1 x
  have c := count_cast (fun k : Fin M => (idx (ValueIdx.ix2 k (0 : Fin 1))).toInt = (x.val : Int)) (by rw [Fintype.card_fin]; exact hM)
  rw [← e] at c
  refine Eq.trans ?_ (c.trans (Finset.sum_congr rfl fun k _ => ind_congr ?_))
  · rw [ix1_eq_valueIdx]; rfl
  · rw [← hw k, ix2_eq_valueIdx]

/-- A sum over the entries of a flattened array is one over the array's. -/
theorem sum_flat {M : Nat} {s : Shape} (x : s.Idx → BitVec 32) (h : s.ShapeCasts (⟨1, ![M]⟩ : Shape)) (f : BitVec 32 → EReal) :
    ∑ k : Fin M, f (shapeCast (⟨1, ![M]⟩ : Shape) x h (ix1 k)) = ∑ i, f (x i) := by
  rw [← sum_idx1 (fun j : (⟨1, ![M]⟩ : Shape).Idx => f (shapeCast (⟨1, ![M]⟩ : Shape) x h j))]
  exact Equiv.sum_comp (Shape.reshapeEquiv _) fun i => f (x i)

/-- A word that is not negative is not moved by the wrap of negative index words. -/
theorem wrap_nonneg (w m : BitVec 32) (h : 0 ≤ w.toInt) : Scalar.select (IntOp.cmpi CmpIPredicate.slt w 0#32) (IntOp.addi w m) w = w := by
  rw [select_ite, if_neg]
  rw [slt_one]
  simpa using h

/-- The larger of zero and a word is not negative. -/
theorem max_nonneg (w : BitVec 32) : 0 ≤ (IntOp.maxsi 0#32 w).toInt := by
  rw [SortNet.toInt_maxsi]; simp

/-- The larger of zero and a word that is not negative is the word. -/
theorem max_zero (w : BitVec 32) (h : 0 ≤ w.toInt) : IntOp.maxsi 0#32 w = w := by
  apply BitVec.eq_of_toInt_eq
  rw [SortNet.toInt_maxsi]
  simpa using h

/-- The bit of a signed comparison, the other way. -/
theorem sge_one (a b : BitVec 32) : IntOp.cmpi CmpIPredicate.sge a b = 1#1 ↔ b.toInt ≤ a.toInt := by
  show BitVec.ofBool (decide _) = 1#1 ↔ _
  by_cases h : b.toInt ≤ a.toInt <;> simp [h]

/-- A word counted under a condition, with a word `c` in its place otherwise that no bin is named by. -/
theorem word_iff {C : Prop} [Decidable C] (x c w : BitVec 32) (hx : 0 ≤ x.toInt) (hc : IntOp.maxsi 0#32 c ≠ w) :
    IntOp.maxsi 0#32 (if C then x else c) = w ↔ C ∧ x = w := by
  by_cases h : C
  · rw [if_pos h, max_zero x hx]; simp [h]
  · rw [if_neg h]; simp [h, hc]

/-- The bit of the strict upper triangle, as the reference forms it. -/
theorem upper_one (i j : Fin 64) :
    Scalar.select (IntOp.cmpi CmpIPredicate.sge (IntOp.addi (BitVec.ofNat 32 i.val) 0#32) (BitVec.ofNat 32 j.val)) 0#1 1#1 = 1#1 ↔ i.val < j.val := by
  have e : IntOp.addi (BitVec.ofNat 32 i.val) 0#32 = BitVec.ofNat 32 i.val := BitVec.add_zero _
  have h := sge_one (BitVec.ofNat 32 i.val) (BitVec.ofNat 32 j.val)
  rw [toInt_small (show i.val < 2 ^ 31 by omega), toInt_small (show j.val < 2 ^ 31 by omega)] at h
  rw [e, select_ite]
  by_cases g : i.val < j.val
  · rw [if_neg fun q => by have := h.1 q; omega]; simp [g]
  · rw [if_pos (h.2 (by omega))]; simp [g]

variable (V0 : Valuation τ sig (Elt Ideal))

/-- The size word of molecule `b`. -/
def nR (b : Fin 8192) : BitVec 32 := (V0 (Proc.devRef .tc main_arg2) : IVec S8192 32) (ix1 b)
/-- The atom types of molecule `b`. -/
def aR (b : Fin 8192) (p : Fin 64) : BitVec 32 := (V0 (Proc.devRef .tc main_arg0) : IVec S8192x64 32) (ix2 b p)
/-- The edge types of molecule `b`. -/
def tR (b : Fin 8192) (i j : Fin 64) : BitVec 32 := (V0 (Proc.devRef .tc main_arg1) : IVec S8192x64x64 32) (ix3 b i j)

/-- The sizes. -/
theorem v17_apply (l : Fin 65) : (res_main_v17 V0 : FVec Ideal S65 .f32) (ix1 l) = (∑ b, molN (nR V0 b) l.val : EReal) := by
  unfold res_main_v17
  refine (hist_words scatter_S65_S8192x1_S8192_n_0_0_1 rfl rfl rfl _ (fun _ => rfl) _ _ (fun _ => rfl) (res_main_v8 V0) (fun k => ?_) (by norm_num) l).trans ?_
  · pointwise
    refine wrap_nonneg _ _ ?_
    pointwise [res_main_v8]
    exact max_nonneg _
  · refine Finset.sum_congr rfl fun b _ => ind_congr ?_
    rw [← eq_ofNat_iff _ (by omega)]
    pointwise [res_main_v8]
    have e : IntOp.maxsi 0#32 (sizeW (nR V0 b)) = sizeW (nR V0 b) := by
      refine max_zero _ ?_
      rw [sizeW, SortNet.toInt_minsi, SortNet.toInt_maxsi]
      simp
    exact Eq.congr e rfl

/-- Whether position `p` of molecule `b` holds an atom, as the reference's bit. -/
theorem v5_apply (b : Fin 8192) (p : Fin 64) : (res_main_v5 V0 : IVec S8192x64 1) (ix2 b p) = 1#1 ↔ live (nR V0 b) p.val := by
  pointwise [res_main_v5]
  rw [slt_one, toInt_small (by omega)]
  rfl

/-- The atom types. -/
theorem v31_apply (hA : ∀ b p, 0 ≤ (aR V0 b p).toInt) (l : Fin 16) : (res_main_v31 V0 : FVec Ideal S16 .f32) (ix1 l) = (∑ b, molA (nR V0 b) (aR V0 b) l.val : EReal) := by
  unfold res_main_v31
  pointwise
  refine (hist_words scatter_S17_S524288x1_S524288_n_0_0_1 rfl rfl rfl _ (fun _ => rfl) _ _ (fun _ => rfl) (res_main_v21 V0) (fun k => ?_) (by norm_num) _).trans ?_
  · pointwise
    exact wrap_nonneg _ _ (max_nonneg _)
  · unfold res_main_v21
    refine (sum_flat _ _ fun w => ind ((IntOp.maxsi 0#32 w).toInt = (l.val : Int))).trans ?_
    refine (sum_idx2 (n0 := 8192) (n1 := 64) _).trans ?_
    refine Finset.sum_congr rfl fun b _ => Finset.sum_congr rfl fun p _ => ind_congr ?_
    rw [← eq_ofNat_iff _ (by omega)]
    pointwise
    exact (word_iff _ 16#32 _ (hA b p) (by rw [max_zero _ (by decide)]; exact ne_word (d := 16) (by omega) l.isLt)).trans (and_congr_left' (v5_apply V0 b p))

/-- Whether both positions of a pair hold atoms, as the reference's bit. -/
theorem v38_apply (b : Fin 8192) (i j : Fin 64) : (res_main_v38 V0 : IVec S8192x64x64 1) (ix3 b i j) = 1#1 ↔ live (nR V0 b) i.val ∧ live (nR V0 b) j.val := by
  pointwise [res_main_v38]
  rw [and_one, v5_apply, v5_apply]

/-- The edge types. -/
theorem v55_apply (hT : ∀ b i j, 0 ≤ (tR V0 b i j).toInt) (l : Fin 5) : (res_main_v55 V0 : FVec Ideal S5 .f32) (ix1 l) = (∑ b, molE (nR V0 b) (tR V0 b) l.val : EReal) := by
  unfold res_main_v55
  pointwise
  refine (hist_words scatter_S6_S33554432x1_S33554432_n_0_0_1 rfl rfl rfl _ (fun _ => rfl) _ _ (fun _ => rfl) (res_main_v45 V0) (fun k => ?_) (by norm_num) _).trans ?_
  · pointwise
    exact wrap_nonneg _ _ (max_nonneg _)
  · unfold res_main_v45
    refine (sum_flat _ _ fun w => ind ((IntOp.maxsi 0#32 w).toInt = (l.val : Int))).trans ?_
    refine (sum_idx3 (n0 := 8192) (n1 := 64) (n2 := 64) _).trans ?_
    refine Finset.sum_congr rfl fun b _ => Finset.sum_congr rfl fun i _ => Finset.sum_congr rfl fun j _ => ind_congr ?_
    rw [← eq_ofNat_iff _ (by omega)]
    pointwise
    refine (word_iff _ 5#32 _ (hT b i j) (by rw [max_zero _ (by decide)]; exact ne_word (d := 5) (by omega) l.isLt)).trans (and_congr_left' ?_)
    refine (and_one _ _).trans ((and_congr (upper_one i j) (v38_apply V0 b i j)).trans ?_)
    unfold live
    omega

/-- The valencies. -/
theorem v78_apply (l : Fin 190) : (res_main_v78 V0 : FVec Ideal S190 .f32) (ix1 l) = (∑ b, molV (nR V0 b) (tR V0 b) l.val : EReal) := by
  unfold res_main_v78
  pointwise
  refine (hist_words scatter_S191_S524288x1_S524288_n_0_0_1 rfl rfl rfl _ (fun _ => rfl) _ _ (fun _ => rfl) (res_main_v68 V0) (fun k => ?_) (by norm_num) _).trans ?_
  · pointwise
    exact wrap_nonneg _ _ (max_nonneg _)
  · unfold res_main_v68
    refine (sum_flat _ _ fun w => ind ((IntOp.maxsi 0#32 w).toInt = (l.val : Int))).trans ?_
    refine (sum_idx2 (n0 := 8192) (n1 := 64) _).trans ?_
    refine Finset.sum_congr rfl fun b _ => Finset.sum_congr rfl fun p _ => ind_congr ?_
    rw [← eq_ofNat_iff _ (by omega)]
    pointwise
    refine (word_iff _ 190#32 _ ?_ (by rw [max_zero _ (by decide)]; exact ne_word (d := 190) (by omega) l.isLt)).trans (and_congr_left' (v5_apply V0 b p) |>.trans (and_congr_right fun hp => ?_))
    · refine le_of_le_of_eq ?_ (SortNet.toInt_minsi _ _).symm
      exact le_min (by decide) (max_nonneg _)
    · refine Eq.congr (congrArg valW (Finset.sum_congr rfl fun i _ => ?_)) rfl
      refine if_congr ((v38_apply V0 b i p).trans (and_iff_left hp)) ?_ ?_
      · exact if_congr (eq_one _ _) rfl rfl
      · exact Ideal.ofBits_zero_f32

end Cert.Hist
-- ==== Proof.RefOut.lean ====
/- The reference's result, entry by entry: the normalised counts, then the four errors. -/
module

public import proofs.«01_k».proof.Proof.RefCount
public import proofs.«01_k».proof.Proof.Mean

@[expose] public section

noncomputable section

namespace Cert.Hist

open Idealize.ShloMosaic Idealize.ShloMosaic.Tactic Cert.ReferenceIdeal Cert.ReferenceIdeal.Gen Cert.ReferenceIdeal.Value

variable (V0 : Valuation τ sig (Elt Ideal))

/-- The counts of the sizes. -/
def cntN (l : Fin 65) : EReal := (res_main_v17 V0 : FVec Ideal S65 .f32) (ix1 l)
/-- The counts of the atom types. -/
def cntA (l : Fin 16) : EReal := (res_main_v31 V0 : FVec Ideal S16 .f32) (ix1 l)
/-- The counts of the edge types. -/
def cntE (l : Fin 5) : EReal := (res_main_v55 V0 : FVec Ideal S5 .f32) (ix1 l)
/-- The counts of the valencies. -/
def cntV (l : Fin 190) : EReal := (res_main_v78 V0 : FVec Ideal S190 .f32) (ix1 l)
/-- The target of the sizes. -/
def wantN (l : Fin 65) : EReal := (V0 (Proc.devRef .tc main_arg3) : FVec Ideal S65 .f32) (ix1 l)
/-- The target of the atom types. -/
def wantA (l : Fin 16) : EReal := (V0 (Proc.devRef .tc main_arg4) : FVec Ideal S16 .f32) (ix1 l)
/-- The target of the edge types. -/
def wantE (l : Fin 5) : EReal := (V0 (Proc.devRef .tc main_arg5) : FVec Ideal S5 .f32) (ix1 l)
/-- The target of the valencies. -/
def wantV (l : Fin 190) : EReal := (V0 (Proc.devRef .tc main_arg6) : FVec Ideal S190 .f32) (ix1 l)

/-- The reference's shares of the sizes. -/
theorem v81_apply (l : Fin 65) : ((res_main_v81 V0 : FVec Ideal S65 .f32) (ix1 l) : Ideal FTy.f32) = normed (cntN V0) l := by
  pointwise [res_main_v81]
  rfl

/-- The reference's shares of the atom types. -/
theorem v84_apply (l : Fin 16) : ((res_main_v84 V0 : FVec Ideal S16 .f32) (ix1 l) : Ideal FTy.f32) = normed (cntA V0) l := by
  pointwise [res_main_v84]
  rfl

/-- The reference's shares of the edge types. -/
theorem v87_apply (l : Fin 5) : ((res_main_v87 V0 : FVec Ideal S5 .f32) (ix1 l) : Ideal FTy.f32) = normed (cntE V0) l := by
  pointwise [res_main_v87]
  rfl

/-- The reference's shares of the valencies. -/
theorem v90_apply (l : Fin 190) : ((res_main_v90 V0 : FVec Ideal S190 .f32) (ix1 l) : Ideal FTy.f32) = normed (cntV V0) l := by
  pointwise [res_main_v90]
  rfl

/-- The error of the sizes. -/
def errN : FVec Ideal S1 .f32 :=
  broadcastInDim S1 ![] bcast_S_S1 (Host.divf (Host.reduceAdd (Host.absf (subf (res_main_v81 V0) (Host.divf (V0 (Proc.devRef .tc main_arg3) : FVec Ideal S65 .f32)
    (broadcastInDim S65 ![] bcast_S_S65 (Host.reduceAdd (V0 (Proc.devRef .tc main_arg3) : FVec Ideal S65 .f32) (constant S_ .f32 0x00000000#32) reducesTo_S65_S_d0 h_S_)))))
    (constant S_ .f32 0x00000000#32) reducesTo_S65_S_d0 h_S_) (constant S_ .f32 0x42820000#32))

/-- The error of the sizes: the summed distance from the target over the number of bins. -/
theorem errN_apply : (errN V0 (ix1 0) : Ideal FTy.f32) = Ideal.div (absDiff (cntN V0) (wantN V0)) (FloatOps.ofBits (F := Ideal) .f32 0x42820000#32) := by
  pointwise [errN, v81_apply]
  rfl

/-- The error of the atom types. -/
def errA : FVec Ideal S1 .f32 :=
  broadcastInDim S1 ![] bcast_S_S1 (Host.divf (Host.reduceAdd (Host.absf (subf (res_main_v84 V0) (Host.divf (V0 (Proc.devRef .tc main_arg4) : FVec Ideal S16 .f32)
    (broadcastInDim S16 ![] bcast_S_S16 (Host.reduceAdd (V0 (Proc.devRef .tc main_arg4) : FVec Ideal S16 .f32) (constant S_ .f32 0x00000000#32) reducesTo_S16_S_d0 h_S_)))))
    (constant S_ .f32 0x00000000#32) reducesTo_S16_S_d0 h_S_) (constant S_ .f32 0x41800000#32))

/-- The error of the atom types, in the same way. -/
theorem errA_apply : (errA V0 (ix1 0) : Ideal FTy.f32) = Ideal.div (absDiff (cntA V0) (wantA V0)) (FloatOps.ofBits (F := Ideal) .f32 0x41800000#32) := by
  pointwise [errA, v84_apply]
  rfl

/-- The error of the edge types. -/
def errE : FVec Ideal S1 .f32 :=
  broadcastInDim S1 ![] bcast_S_S1 (Host.divf (Host.reduceAdd (Host.absf (subf (res_main_v87 V0) (Host.divf (V0 (Proc.devRef .tc main_arg5) : FVec Ideal S5 .f32)
    (broadcastInDim S5 ![] bcast_S_S5 (Host.reduceAdd (V0 (Proc.devRef .tc main_arg5) : FVec Ideal S5 .f32) (constant S_ .f32 0x00000000#32) reducesTo_S5_S_d0 h_S_)))))
    (constant S_ .f32 0x00000000#32) reducesTo_S5_S_d0 h_S_) (constant S_ .f32 0x40A00000#32))

/-- The error of the edge types, in the same way. -/
theorem errE_apply : (errE V0 (ix1 0) : Ideal FTy.f32) = Ideal.div (absDiff (cntE V0) (wantE V0)) (FloatOps.ofBits (F := Ideal) .f32 0x40A00000#32) := by
  pointwise [errE, v87_apply]
  rfl

/-- The error of the valencies. -/
def errV : FVec Ideal S1 .f32 :=
  broadcastInDim S1 ![] bcast_S_S1 (Host.divf (Host.reduceAdd (Host.absf (subf (res_main_v90 V0) (Host.divf (V0 (Proc.devRef .tc main_arg6) : FVec Ideal S190 .f32)
    (broadcastInDim S190 ![] bcast_S_S190 (Host.reduceAdd (V0 (Proc.devRef .tc main_arg6) : FVec Ideal S190 .f32) (constant S_ .f32 0x00000000#32) reducesTo_S190_S_d0 h_S_)))))
    (constant S_ .f32 0x00000000#32) reducesTo_S190_S_d0 h_S_) (constant S_ .f32 0x433E0000#32))

/-- The error of the valencies, in the same way. -/
theorem errV_apply : (errV V0 (ix1 0) : Ideal FTy.f32) = Ideal.div (absDiff (cntV V0) (wantV V0)) (FloatOps.ofBits (F := Ideal) .f32 0x433E0000#32) := by
  pointwise [errV, v90_apply]
  rfl

/-- Five pieces put one after the other, the last one made of four single entries. -/
def glueR (a : FVec Ideal S65 .f32) (b : FVec Ideal S16 .f32) (d : FVec Ideal S5 .f32) (e : FVec Ideal S190 .f32) (f g h k : FVec Ideal S1 .f32) : FVec Ideal S280 .f32 :=
  concatenate S280 0 [⟨S65, a⟩, ⟨S16, b⟩, ⟨S5, d⟩, ⟨S190, e⟩,
    ⟨S4, concatenate S4 0 [⟨S1, f⟩, ⟨S1, g⟩, ⟨S1, h⟩, ⟨S1, k⟩] concatenates_S1_S1_S1_S1_S4_d0⟩] concatenates_S65_S16_S5_S190_S4_S280_d0

/-- The reference's result. -/
def refOut : FVec Ideal S280 .f32 :=
  glueR (res_main_v81 V0) (res_main_v84 V0) (res_main_v87 V0) (res_main_v90 V0) (errN V0) (errA V0) (errE V0) (errV V0)

section
variable (a : FVec Ideal S65 .f32) (b : FVec Ideal S16 .f32) (d : FVec Ideal S5 .f32) (e : FVec Ideal S190 .f32) (f g h k : FVec Ideal S1 .f32)

/-- The first piece of the result starts it. -/
theorem glueR_0 (q : Fin 65) : (glueR a b d e f g h k (ix1 ⟨q.val, by omega⟩) : Ideal FTy.f32) = a (ix1 q) := by
  have hq := q.isLt
  pointwise [glueR]

/-- The second piece lies at 65 and after. -/
theorem glueR_1 (q : Fin 16) : (glueR a b d e f g h k (ix1 ⟨65 + q.val, by omega⟩) : Ideal FTy.f32) = b (ix1 q) := by
  have hq := q.isLt
  pointwise [glueR]

/-- The third piece lies at 81 and after. -/
theorem glueR_2 (q : Fin 5) : (glueR a b d e f g h k (ix1 ⟨81 + q.val, by omega⟩) : Ideal FTy.f32) = d (ix1 q) := by
  have hq := q.isLt
  pointwise [glueR]
  rw [dif_neg (by omega), dif_neg (by omega), dif_pos (by omega)]
  exact congrArg (fun x => d (ix1 x)) (Fin.ext (by show 81 + q.val - 65 - 16 = q.val; omega))

/-- The fourth piece lies at 86 and after. -/
theorem glueR_3 (q : Fin 190) : (glueR a b d e f g h k (ix1 ⟨86 + q.val, by omega⟩) : Ideal FTy.f32) = e (ix1 q) := by
  have hq := q.isLt
  pointwise [glueR]
  rw [dif_neg (by omega), dif_neg (by omega), dif_neg (by omega), dif_pos (by omega)]
  exact congrArg (fun x => e (ix1 x)) (Fin.ext (by show 86 + q.val - 65 - 16 - 5 = q.val; omega))

/-- The four errors lie at 276 and after. -/
theorem glueR_4 (q : Fin 4) : (glueR a b d e f g h k (ix1 ⟨276 + q.val, by omega⟩) : Ideal FTy.f32) = ![f (ix1 0), g (ix1 0), h (ix1 0), k (ix1 0)] q := by
  fin_cases q
  all_goals pointwise [glueR]

end

end Cert.Hist
-- ==== Proof.Equation.lean ====
/- The kernel's result is the reference's. -/
module

public import proofs.«01_k».proof.Proof.Tail
public import proofs.«01_k».proof.Proof.Padded
public import proofs.«01_k».proof.Proof.RefOut

@[expose] public section

noncomputable section

namespace Cert.Hist

open Idealize.ShloMosaic Idealize.ShloMosaic.Tactic Cert.KernelIdeal Cert.KernelIdeal.Gen

/-- No molecule has a size above 64. -/
theorem molN_high (n : BitVec 32) (l : Nat) (h : 65 ≤ l) (h' : l < 128) : molN n l = 0 := by
  unfold molN ind
  refine if_neg fun e => ?_
  have q := congrArg BitVec.toInt e
  rw [toInt_small (by omega)] at q
  unfold sizeW at q
  rw [SortNet.toInt_minsi] at q
  have : (64#32 : BitVec 32).toInt = 64 := by decide
  omega

/-- The four errors lie in the first four lanes. -/
theorem errors_at (a b d e : EReal) (q : Fin 4) :
    a * ind (BitVec.ofNat 32 q.val = 0#32) + b * ind (BitVec.ofNat 32 q.val = 1#32) + d * ind (BitVec.ofNat 32 q.val = 2#32) + e * ind (BitVec.ofNat 32 q.val = 3#32)
      = ![a, b, d, e] q := by
  fin_cases q <;> simp [ind]

/-- What the reference starts from is what the kernel starts from. -/
structure Same (m : (ℓ : Loc nD τ sig) → Buf (Elt Ideal) ℓ) (c : Dev nD) (V0 : Valuation Cert.ReferenceIdeal.τ Cert.ReferenceIdeal.sig (Elt Ideal)) : Prop where
  n : ∀ b, nR V0 b = nK m c b
  a : ∀ b, aR V0 b = aK m c b
  t : ∀ b, tR V0 b = tK m c b
  wN : ∀ l, wantN V0 l = m ((c.tc : Thread nD τ).loc main_arg3) (ix1 l)
  wA : ∀ l, wantA V0 l = m ((c.tc : Thread nD τ).loc main_arg4) (ix1 l)
  wE : ∀ l, wantE V0 l = m ((c.tc : Thread nD τ).loc main_arg5) (ix1 l)
  wV : ∀ l, wantV V0 l = m ((c.tc : Thread nD τ).loc main_arg6) (ix1 l)

section
variable {m : (ℓ : Loc nD τ sig) → Buf (Elt Ideal) ℓ} {c : Dev nD} {V0 : Valuation Cert.ReferenceIdeal.τ Cert.ReferenceIdeal.sig (Elt Ideal)} (S : Same m c V0)
  {s : Vec Ideal S1x128 .f32 × Vec Ideal S1x128 .f32 × Vec Ideal S1x128 .f32 × Vec Ideal S2x128 .f32} (H : Held m c s 32)
include S H

/-- The kernel's histogram of the sizes is the reference's, padded. -/
theorem pad_N : Pad (Fin.castLE (by decide)) (lanes s.1) (cntN V0) :=
  pad_row _ _ _ fun q => by
    refine ((H.hN q).trans (partial_all _)).trans ?_
    split
    · refine Eq.trans ?_ (v17_apply V0 _).symm
      exact Finset.sum_congr rfl fun b _ => by rw [S.n]; rfl
    · exact Finset.sum_eq_zero fun b _ => molN_high _ _ (by omega) q.isLt

/-- The kernel's histogram of the atom types is the reference's, padded. -/
theorem pad_A (hA : ∀ b p, 0 ≤ (aK m c b p).toInt) : Pad (Fin.castLE (by decide)) (lanes s.2.1) (cntA V0) :=
  pad_row _ _ _ fun q => by
    refine ((H.hA q).trans (partial_all _)).trans ?_
    unfold shareA
    split
    · refine Eq.trans ?_ (v31_apply V0 (fun b p => by rw [S.a]; exact hA b p) _).symm
      exact Finset.sum_congr rfl fun b _ => by rw [S.n, S.a]
    · exact Finset.sum_eq_zero fun b _ => rfl

/-- The kernel's histogram of the edge types is the reference's, padded. -/
theorem pad_E (hT : ∀ b i j, 0 ≤ (tK m c b i j).toInt) : Pad (Fin.castLE (by decide)) (lanes s.2.2.1) (cntE V0) :=
  pad_row _ _ _ fun q => by
    refine ((H.hE q).trans (partial_all _)).trans ?_
    unfold shareE
    split
    · refine Eq.trans ?_ (v55_apply V0 (fun b i j => by rw [S.t]; exact hT b i j) _).symm
      exact Finset.sum_congr rfl fun b _ => by rw [S.n, S.t]
    · exact Finset.sum_eq_zero fun b _ => rfl

/-- The kernel's histogram of the valencies is the reference's, padded. -/
theorem pad_V : Pad fold2 (lanes2 s.2.2.2) (cntV V0) :=
  pad_rows _ _ fun r q => by
    refine ((H.hV r q).trans (partial_all _)).trans ?_
    unfold shareV
    split
    · refine Eq.trans ?_ (v78_apply V0 _).symm
      exact Finset.sum_congr rfl fun b _ => by rw [S.n, S.t]
    · exact Finset.sum_eq_zero fun b _ => rfl

omit H

/-- The kernel's target of the sizes is the reference's, padded. -/
theorem want_N (t : Fin cfg0.N) : Pad (Fin.castLE (by decide)) (lanes (iblk m c 6 t)) (wantN V0) :=
  pad_row _ _ _ fun q => by
    refine (blk6 m c t q).trans ?_
    split
    · exact (S.wN _).symm
    · rfl

/-- The kernel's target of the atom types is the reference's, padded. -/
theorem want_A (t : Fin cfg0.N) : Pad (Fin.castLE (by decide)) (lanes (iblk m c 7 t)) (wantA V0) :=
  pad_row _ _ _ fun q => by
    refine (blk7 m c t q).trans ?_
    split
    · exact (S.wA _).symm
    · rfl

/-- The kernel's target of the edge types is the reference's, padded. -/
theorem want_E (t : Fin cfg0.N) : Pad (Fin.castLE (by decide)) (lanes (iblk m c 8 t)) (wantE V0) :=
  pad_row _ _ _ fun q => by
    refine (blk8 m c t q).trans ?_
    split
    · exact (S.wE _).symm
    · rfl

/-- The kernel's target of the valencies is the reference's, padded. -/
theorem want_V (t : Fin cfg0.N) : Pad fold2 (lanes2 (iblk m c 9 t)) (wantV V0) :=
  pad_rows _ _ fun r q => by
    refine (blk9 m c t r q).trans ?_
    split
    · exact (S.wV _).symm
    · rfl

/-- The kernel's four errors are the reference's. -/
theorem errors_eq (H : Held m c s 32) (hA : ∀ b p, 0 ≤ (aK m c b p).toInt) (hT : ∀ b i j, 0 ≤ (tK m c b i j).toInt) (t : Fin cfg0.N) (q : Fin 4) :
    errorRow (F := Ideal) s.1 s.2.1 s.2.2.1 s.2.2.2 (iblk m c 6 t) (iblk m c 7 t) (iblk m c 8 t) (iblk m c 9 t) (ix2 0 ⟨q.val, by omega⟩)
      = ![(errN V0 (ix1 0) : EReal), errA V0 (ix1 0), errE V0 (ix1 0), errV V0 (ix1 0)] q := by
  rw [errorRow_apply, (pad_N S H).absDiff (want_N S t), (pad_A S H hA).absDiff (want_A S t), (pad_E S H hT).absDiff (want_E S t), (pad_V S H).absDiff (want_V S t)]
  rw [errN_apply, errA_apply, errE_apply, errV_apply]
  exact errors_at _ _ _ _ q

/-- Entry by entry, the kernel's result is the reference's. -/
theorem equation (hA : ∀ b p, 0 ≤ (aK m c b p).toInt) (hT : ∀ b i j, 0 ≤ (tK m c b i j).toInt) : cut ((dats m 0 c).arrAt 10 cfg0.N) = refOut V0 := by
  obtain ⟨s, H, ho⟩ := out_last m c
  rw [array_last m c, ho]
  funext j
  obtain ⟨i, rfl⟩ : ∃ i : Fin 280, j = ix1 i := ⟨j 0, eq_ix1 j⟩
  refine cut_at _ i _ (fun q hq hi => ?_) (fun q hq hi => ?_) (fun q hq hi => ?_) (fun a q hq hi => ?_) fun q hq hi => ?_
  · rw [show i = ⟨q.val, by omega⟩ from Fin.ext hi]
    refine Eq.trans ?_ ((glueR_0 _ _ _ _ _ _ _ _ ⟨q.val, hq⟩).trans (v81_apply V0 _)).symm
    refine out_entry _ _ _ _ _ _ _ _ 0 q _ (fun _ => ?_) (fun h => absurd h (by decide)) (fun h => absurd h (by decide)) (fun a h => absurd h (by show ¬0 = 3 + a.val; omega))
      (fun h => absurd h (by decide)) (by decide)
    exact (pay4_apply _ q).trans ((pad_N S H).normed ⟨q.val, hq⟩)
  · rw [show i = ⟨65 + q.val, by omega⟩ from Fin.ext hi]
    refine Eq.trans ?_ ((glueR_1 _ _ _ _ _ _ _ _ ⟨q.val, hq⟩).trans (v84_apply V0 _)).symm
    refine out_entry _ _ _ _ _ _ _ _ 1 q _ (fun h => absurd h (by decide)) (fun _ => ?_) (fun h => absurd h (by decide)) (fun a h => absurd h (by show ¬1 = 3 + a.val; omega))
      (fun h => absurd h (by decide)) (by decide)
    exact (pay4_apply _ q).trans ((pad_A S H hA).normed ⟨q.val, hq⟩)
  · rw [show i = ⟨81 + q.val, by omega⟩ from Fin.ext hi]
    refine Eq.trans ?_ ((glueR_2 _ _ _ _ _ _ _ _ ⟨q.val, hq⟩).trans (v87_apply V0 _)).symm
    refine out_entry _ _ _ _ _ _ _ _ 2 q _ (fun h => absurd h (by decide)) (fun h => absurd h (by decide)) (fun _ => ?_) (fun a h => absurd h (by show ¬2 = 3 + a.val; omega))
      (fun h => absurd h (by decide)) (by decide)
    exact (pay4_apply _ q).trans ((pad_E S H hT).normed ⟨q.val, hq⟩)
  · rw [show i = ⟨86 + (128 * a.val + q.val), by omega⟩ from Fin.ext hi]
    refine Eq.trans ?_ ((glueR_3 _ _ _ _ _ _ _ _ ⟨128 * a.val + q.val, hq⟩).trans (v90_apply V0 _)).symm
    refine out_entry _ _ _ _ _ _ _ _ ⟨3 + a.val, by omega⟩ q _ (fun h => absurd h (by show ¬3 + a.val = 0; omega)) (fun h => absurd h (by show ¬3 + a.val = 1; omega))
      (fun h => absurd h (by show ¬3 + a.val = 2; omega)) (fun a' h => ?_) (fun h => absurd h (by show ¬3 + a.val = 5; omega)) (by show 3 + a.val < 6; omega)
    obtain rfl : a' = a := Fin.ext (by have h : 3 + a.val = 3 + a'.val := h; omega)
    refine (pay7_apply _ a' q).trans (Eq.trans (congrArg _ ?_) ((pad_V S H).normed ⟨128 * a'.val + q.val, hq⟩))
    refine Prod.ext (Fin.ext ?_) (Fin.ext ?_)
    · show a'.val = (128 * a'.val + q.val) / 128; omega
    · show q.val = (128 * a'.val + q.val) % 128; omega
  · rw [show i = ⟨276 + q.val, by omega⟩ from Fin.ext hi]
    refine Eq.trans ?_ (glueR_4 _ _ _ _ _ _ _ _ ⟨q.val, hq⟩).symm
    refine out_entry _ _ _ _ _ _ _ _ 5 q _ (fun h => absurd h (by decide)) (fun h => absurd h (by decide)) (fun h => absurd h (by decide)) (fun a h => absurd h (by show ¬5 = 3 + a.val; omega))
      (fun _ => ?_) (by decide)
    exact errors_eq S H hA hT lastPt ⟨q.val, hq⟩

end

end Cert.Hist
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.StableHlo Idealize.SL.Sem

/-- The reference leaves its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The shapes of the precondition's two comparisons. -/
theorem pre_facts : Cert.Pre_types_nonnegative.Facts := ⟨by decide, by decide⟩

section Kernel
open Cert.KernelIdeal Cert.KernelIdeal.Gen

/-- On types that are not negative the precondition says so, entry by entry. -/
theorem nonnegative {m : (ℓ : Loc nD τ sig) → Buf (Elt Ideal) ℓ} (h : Cert.Pre_KernelIdeal_types_nonnegative (hPre_types_nonnegative := pre_facts) m) (c : Dev nD) :
    (∀ b p, 0 ≤ (Hist.aK m c b p).toInt) ∧ ∀ b i j, 0 ≤ (Hist.tK m c b i j).toInt :=
  ⟨fun b p => (Hist.sge_one _ 0#32).mp (congrFun (h c).1 (ix2 b p)), fun b i j => (Hist.sge_one _ 0#32).mp (congrFun (h c).2 (ix3 b i j))⟩

/-- The entries of the kernel's array that the host code cuts out. -/
def result (m : (ℓ : Loc nD τ sig) → Buf (Elt Ideal) ℓ) (c : Dev nD) : FVec Ideal S280 .f32 := Hist.cut ((dats m 0 c).arrAt 10 cfg0.N)

/-- The kernel ends with the entries of its array that the host code cuts out, and leaves its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v48 (Pipeline.mem_restRefs_of main_v48 (by decide) (by decide))).trans (Hist.tail_value m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Kernel

/-- From the same arguments the two programs start from the same molecules and targets. -/
theorem same {m : (ℓ : Loc Cert.KernelIdeal.nD Cert.KernelIdeal.τ Cert.KernelIdeal.sig) → Buf (Elt Ideal) ℓ} {c : Dev Cert.KernelIdeal.nD}
    {m' : (ℓ : Loc Cert.ReferenceIdeal.nD Cert.ReferenceIdeal.τ Cert.ReferenceIdeal.sig) → Buf (Elt Ideal) ℓ}
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Hist.Same m c (launchContents m' c) where
  n b := congrFun e2 (ix1 b)
  a b := funext fun p => congrFun e0 (ix2 b p)
  t b := funext fun i => funext fun j => congrFun e1 (ix3 b i j)
  wN l := congrFun e3 (ix1 l)
  wA l := congrFun e4 (ix1 l)
  wE l := congrFun e5 (ix1 l)
  wV l := congrFun e6 (ix1 l)

section Reference
open Cert.ReferenceIdeal

/-- The reference ends with its result and leaves its arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v124) = Hist.refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  unfold Hist.refOut Hist.glueR Hist.errN Hist.errA Hist.errE Hist.errV
  exact Value.run m ρ

end Reference

/-- From the same arguments the kernel and the reference end with the same result. -/
theorem algebraic : Cert.algebraic_KernelIdeal_ReferenceIdeal_pre_types_nonnegative (hPre_types_nonnegative := pre_facts) := by
  intro m g m' g' h e
  have E (c) : result m c = Hist.refOut (launchContents m' c) := by
    obtain ⟨e0, e1, e2, e3, e4, e5, e6⟩ := e c
    exact Hist.equation (same e0 e1 e2 e3 e4 e5 e6) (nonnegative h c).1 (nonnegative h c).2
  refine ⟨fun c => result m c, kernel_run m g, ?_⟩
  exact (θ_run Cert.ReferenceIdeal.defs _ _).mono (fun r hr c => ⟨(hr c).1.trans (E c).symm, (hr c).2⟩) (reference_run m' g')

/-- The claims together. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
